-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "sm_log2e" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x8192 : Shape := ⟨3, ![4, 4096, 8192]⟩
abbrev S_ : Shape := ⟨0, ![]⟩

class Facts : Prop where
  bcast_S_S4x4096x8192 : S_.BroadcastsInDim S4x4096x8192 (![] : Fin 0 → Fin S4x4096x8192.rank)

variable [Facts]

def fn {F : FTy → Type} [FloatOps F] (main_arg0 : FVec F S4x4096x8192 .bf16) (main_arg1 : FVec F S4x4096x8192 .bf16) (main_arg2 : FVec F S4x4096x8192 .bf16) : IVec S4x4096x8192 1 :=
  let main_v0 : FVec F S4x4096x8192 .bf16 := Host.absf main_arg0
  let main_cst : FVec F S_ .bf16 := constant S_ .bf16 0x7F7F#16
  let main_v1 : FVec F S4x4096x8192 .bf16 := broadcastInDim S4x4096x8192 ![] bcast_S_S4x4096x8192 main_cst
  let main_v2 : IVec S4x4096x8192 1 := cmpf .ole main_v0 main_v1
  let main_v3 : FVec F S4x4096x8192 .bf16 := Host.absf main_arg1
  let main_cst_0 : FVec F S_ .bf16 := constant S_ .bf16 0x7F7F#16
  let main_v4 : FVec F S4x4096x8192 .bf16 := broadcastInDim S4x4096x8192 ![] bcast_S_S4x4096x8192 main_cst_0
  let main_v5 : IVec S4x4096x8192 1 := cmpf .ole main_v3 main_v4
  let main_v6 : IVec S4x4096x8192 1 := andi main_v2 main_v5
  let main_v7 : FVec F S4x4096x8192 .bf16 := Host.absf main_arg2
  let main_cst_1 : FVec F S_ .bf16 := constant S_ .bf16 0x7F7F#16
  let main_v8 : FVec F S4x4096x8192 .bf16 := broadcastInDim S4x4096x8192 ![] bcast_S_S4x4096x8192 main_cst_1
  let main_v9 : IVec S4x4096x8192 1 := cmpf .ole main_v7 main_v8
  let main_v10 : IVec S4x4096x8192 1 := andi main_v6 main_v9
  main_v10
-- ==== Kernel.lean ====
abbrev S4x4096x8192 : Shape := ⟨3, ![4, 4096, 8192]⟩
abbrev S4x64x1x4096 : Shape := ⟨4, ![4, 64, 1, 4096]⟩
abbrev S4x64x1x128 : Shape := ⟨4, ![4, 64, 1, 128]⟩
abbrev S1x4096x128 : Shape := ⟨3, ![1, 4096, 128]⟩
abbrev S1x1x1x4096 : Shape := ⟨4, ![1, 1, 1, 4096]⟩
abbrev S1x1x1x128 : Shape := ⟨4, ![1, 1, 1, 128]⟩
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S128 : Shape := ⟨1, ![128]⟩
abbrev S1x128 : Shape := ⟨2, ![1, 128]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x1792 : Shape := ⟨2, ![256, 1792]⟩
abbrev S1x1792x128 : Shape := ⟨3, ![1, 1792, 128]⟩
abbrev S1792x128 : Shape := ⟨2, ![1792, 128]⟩
abbrev S1x1x1x1792 : Shape := ⟨4, ![1, 1, 1, 1792]⟩
abbrev S1x1792 : Shape := ⟨2, ![1, 1792]⟩
abbrev S1x128x128 : Shape := ⟨3, ![1, 128, 128]⟩
abbrev S128x128 : Shape := ⟨2, ![128, 128]⟩

abbrev nBuf : Space → Nat
  | .hbm => 10
  | .vmem => 20
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x8192, .bf16⟩
  | .hbm, ⟨2, _⟩ => ⟨S4x4096x8192, .bf16⟩
  | .hbm, ⟨3, _⟩ => ⟨S4x4096x8192, .bf16⟩
  | .hbm, ⟨4, _⟩ => ⟨S4x4096x8192, .fp8e4m3⟩
  | .hbm, ⟨5, _⟩ => ⟨S4x64x1x4096, .f32⟩
  | .hbm, ⟨6, _⟩ => ⟨S4x4096x8192, .fp8e4m3⟩
  | .hbm, ⟨7, _⟩ => ⟨S4x64x1x4096, .f32⟩
  | .hbm, ⟨8, _⟩ => ⟨S4x4096x8192, .fp8e4m3⟩
  | .hbm, ⟨9, _⟩ => ⟨S4x64x1x128, .f32⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .fp8e4m3⟩
  | .local _ .vmem, ⟨9, _⟩ => ⟨S1x4096x128, .fp8e4m3⟩
  | .local _ .vmem, ⟨10, _⟩ => ⟨S1x1x1x4096, .f32⟩
  | .local _ .vmem, ⟨11, _⟩ => ⟨S1x1x1x4096, .f32⟩
  | .local _ .vmem, ⟨12, _⟩ => ⟨S1x4096x128, .fp8e4m3⟩
  | .local _ .vmem, ⟨13, _⟩ => ⟨S1x4096x128, .fp8e4m3⟩
  | .local _ .vmem, ⟨14, _⟩ => ⟨S1x1x1x4096, .f32⟩
  | .local _ .vmem, ⟨15, _⟩ => ⟨S1x1x1x4096, .f32⟩
  | .local _ .vmem, ⟨16, _⟩ => ⟨S1x4096x128, .fp8e4m3⟩
  | .local _ .vmem, ⟨17, _⟩ => ⟨S1x4096x128, .fp8e4m3⟩
  | .local _ .vmem, ⟨18, _⟩ => ⟨S1x1x1x128, .f32⟩
  | .local _ .vmem, ⟨19, _⟩ => ⟨S1x1x1x128, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 64], ![false, false]⟩

@[reducible] def k0_t1_loop : Scf.Loop 32 :=
  let c0_i32_124 : BitVec 32 := 0#32
  let c16_i32_125 : BitVec 32 := 16#32
  let v332 : BitVec 32 := Scalar.addi c0_i32_124 c16_i32_125
  let c1_i32_126 : BitVec 32 := 1#32
  ⟨c0_i32_124, v332, c1_i32_126⟩
def k0_mult1 (k0_t1 : Fin k0_t1_loop.trips) : BitVec 32 :=
  let c0_i32_124 : BitVec 32 := 0#32
  let c1_i32_126 : BitVec 32 := 1#32
  let arg12 : BitVec 32 := Scf.iv c0_i32_124 c1_i32_126 k0_t1
  let c256_i32 : BitVec 32 := 256#32
  let v333 : BitVec 32 := Scalar.muli arg12 c256_i32
  v333
def k0_mult2 (k0_t1 : Fin k0_t1_loop.trips) : BitVec 32 :=
  let c0_i32_124 : BitVec 32 := 0#32
  let c1_i32_126 : BitVec 32 := 1#32
  let arg12 : BitVec 32 := Scf.iv c0_i32_124 c1_i32_126 k0_t1
  let c256_i32 : BitVec 32 := 256#32
  let v333 : BitVec 32 := Scalar.muli arg12 c256_i32
  let v334 : BitVec 32 := v333
  let c1536_i32 : BitVec 32 := 1536#32
  let v335 : BitVec 32 := Scalar.subi v334 c1536_i32
  let c0_i32_128 : BitVec 32 := 0#32
  let v336 : BitVec 32 := Scalar.maxsi v335 c0_i32_128
  v336
def k0_off1 (k0_t1 : Fin k0_t1_loop.trips) : Fin 3 → Nat :=
  let c0_129 : Index := 0#32
  let c0_i32_124 : BitVec 32 := 0#32
  let c1_i32_126 : BitVec 32 := 1#32
  let arg12 : BitVec 32 := Scf.iv c0_i32_124 c1_i32_126 k0_t1
  let c256_i32 : BitVec 32 := 256#32
  let v333 : BitVec 32 := Scalar.muli arg12 c256_i32
  let v334 : BitVec 32 := v333
  let v338 : Index := Scalar.indexCast v334
  let c0_130 : Index := 0#32
  ![0, v338.toNat, 0]
def k0_off2 (k0_t1 : Fin k0_t1_loop.trips) : Fin 3 → Nat :=
  let c0_165 : Index := 0#32
  let c0_i32_124 : BitVec 32 := 0#32
  let c1_i32_126 : BitVec 32 := 1#32
  let arg12 : BitVec 32 := Scf.iv c0_i32_124 c1_i32_126 k0_t1
  let c256_i32 : BitVec 32 := 256#32
  let v333 : BitVec 32 := Scalar.muli arg12 c256_i32
  let v334 : BitVec 32 := v333
  let c1536_i32 : BitVec 32 := 1536#32
  let v335 : BitVec 32 := Scalar.subi v334 c1536_i32
  let c0_i32_128 : BitVec 32 := 0#32
  let v336 : BitVec 32 := Scalar.maxsi v335 c0_i32_128
  let v337 : BitVec 32 := v336
  let v437 : Index := Scalar.indexCast v337
  let c0_166 : Index := 0#32
  ![0, v437.toNat, 0]
def k0_off3 (k0_t1 : Fin k0_t1_loop.trips) : Fin 4 → Nat :=
  let c0_167 : Index := 0#32
  let c0_168 : Index := 0#32
  let c0_169 : Index := 0#32
  let c0_i32_124 : BitVec 32 := 0#32
  let c1_i32_126 : BitVec 32 := 1#32
  let arg12 : BitVec 32 := Scf.iv c0_i32_124 c1_i32_126 k0_t1
  let c256_i32 : BitVec 32 := 256#32
  let v333 : BitVec 32 := Scalar.muli arg12 c256_i32
  let v334 : BitVec 32 := v333
  let c1536_i32 : BitVec 32 := 1536#32
  let v335 : BitVec 32 := Scalar.subi v334 c1536_i32
  let c0_i32_128 : BitVec 32 := 0#32
  let v336 : BitVec 32 := Scalar.maxsi v335 c0_i32_128
  let v337 : BitVec 32 := v336
  let v440 : Index := Scalar.indexCast v337
  ![0, 0, 0, v440.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4096x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "sm_log2e" => some (((Real.sqrt 128)⁻¹ * (Real.log 2)⁻¹ : ℝ) : EReal)
  | _ => none
-- ==== ReferenceIdeal.lean ====
abbrev S4x4096x8192 : Shape := ⟨3, ![4, 4096, 8192]⟩
abbrev S4x64x1x4096 : Shape := ⟨4, ![4, 64, 1, 4096]⟩
abbrev S4x64x1x128 : Shape := ⟨4, ![4, 64, 1, 128]⟩
abbrev S4x4096x64x128 : Shape := ⟨4, ![4, 4096, 64, 128]⟩
abbrev S4x4096x64 : Shape := ⟨3, ![4, 4096, 64]⟩
abbrev S4x4096x64x1 : Shape := ⟨4, ![4, 4096, 64, 1]⟩
abbrev S4x64x128 : Shape := ⟨3, ![4, 64, 128]⟩
abbrev S4x1x64x128 : Shape := ⟨4, ![4, 1, 64, 128]⟩
abbrev S4x64x4096x4096 : Shape := ⟨4, ![4, 64, 4096, 4096]⟩
abbrev S4x64x4096x1 : Shape := ⟨4, ![4, 64, 4096, 1]⟩
abbrev S4x64x4096 : Shape := ⟨3, ![4, 64, 4096]⟩
abbrev S4x64x128x4096 : Shape := ⟨4, ![4, 64, 128, 4096]⟩

abbrev nBuf : Space → Nat
  | .hbm => 10
  | .vmem => 10
  | .smem => 0
  | _ => 0

abbrev bufTy : (tb : Table) → Fin (tcTables nBuf tb) → BufTy
  | .hbm, ⟨0, _⟩ => ⟨S4x4096x8192, .bf16⟩
  | .hbm, ⟨1, _⟩ => ⟨S4x4096x8192, .bf16⟩
  | .hbm, ⟨2, _⟩ => ⟨S4x4096x8192, .bf16⟩
  | .hbm, ⟨3, _⟩ => ⟨S4x4096x8192, .bf16⟩
  | .hbm, ⟨4, _⟩ => ⟨S4x4096x8192, .fp8e4m3⟩
  | .hbm, ⟨5, _⟩ => ⟨S4x64x1x4096, .f32⟩
  | .hbm, ⟨6, _⟩ => ⟨S4x4096x8192, .fp8e4m3⟩
  | .hbm, ⟨7, _⟩ => ⟨S4x64x1x4096, .f32⟩
  | .hbm, ⟨8, _⟩ => ⟨S4x4096x8192, .fp8e4m3⟩
  | .hbm, ⟨9, _⟩ => ⟨S4x64x1x128, .f32⟩
  | .local _ .vmem, ⟨0, _⟩ => ⟨S4x4096x8192, .bf16⟩
  | .local _ .vmem, ⟨1, _⟩ => ⟨S4x4096x8192, .bf16⟩
  | .local _ .vmem, ⟨2, _⟩ => ⟨S4x4096x8192, .bf16⟩
  | .local _ .vmem, ⟨3, _⟩ => ⟨S4x4096x8192, .bf16⟩
  | .local _ .vmem, ⟨4, _⟩ => ⟨S4x4096x8192, .fp8e4m3⟩
  | .local _ .vmem, ⟨5, _⟩ => ⟨S4x64x1x4096, .f32⟩
  | .local _ .vmem, ⟨6, _⟩ => ⟨S4x4096x8192, .fp8e4m3⟩
  | .local _ .vmem, ⟨7, _⟩ => ⟨S4x64x1x4096, .f32⟩
  | .local _ .vmem, ⟨8, _⟩ => ⟨S4x4096x8192, .fp8e4m3⟩
  | .local _ .vmem, ⟨9, _⟩ => ⟨S4x64x1x128, .f32⟩
  | _, _ => ⟨S4x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "sm_scale" => some (((Real.sqrt 128)⁻¹ : ℝ) : EReal)
  | _ => none

abbrev grid0 : Pipeline.Grid := .none

abbrev stage0_0 : Fin 1 → Memref sig .tc .vmem S4x4096x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4096x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x4096x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4096x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x4096x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x4096x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x64x1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x4096x8192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x64x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Trip.lean ====
module

public import proofs.«01_k».proof.Proof.Gen.KernelIdeal.Value
public import Idealize.ShloMosaic.Lib.Pipeline.Value
public import Idealize.ShloMosaic.Lib.Tactic
public import Idealize.ShloMosaic.Lib.Tactic.RunNames

@[expose] public section

set_option maxRecDepth 16384

/-! One trip of the loop stores one block of 256 rows: the payload of the loads. -/

noncomputable section

namespace Cert.KernelIdeal.Blk

open Cert.KernelIdeal Cert.KernelIdeal.Gen Idealize.ShloMosaic Idealize.ShloMosaic.TcCoe Idealize.SL.Sem

variable {F : FTy → Type} [FloatOps F] [Named F]

/-- The trip's first query row, as a word. -/
def q0w (k : Fin k0_t1_loop.trips) : BitVec 32 := trip_k0_t1.sl.v333 0#32 k
/-- The trip's first window key, as a word. -/
def k0w (k : Fin k0_t1_loop.trips) : BitVec 32 := trip_k0_t1.sl.v336 0#32 k

section

variable (k : Fin k0_t1_loop.trips) (B2 : Vec F S1x4096x128 .bf16) (B6 B8 B10 : Vec F S1x4096x128 .fp8e4m3) (B9 : Vec F S1x1x1x4096 .f32)

/-- The trip's rows of q. -/
def qx : Vec F S1x256x128 .bf16 := View.ld B2 (Rect.unit (k0_off1 k) S1x256x128.size (k0_off1_inb k))
/-- The trip's code rows of q. -/
def qr : FVec F S256x128 .fp8e4m3 := shapeCast S256x128 (View.ld B6 (Rect.unit (k0_off1 k) S1x256x128.size (k0_off1_inb k))) shapeCasts_S1x256x128_S256x128
/-- The window's code rows of k or v. -/
def kw (B : Vec F S1x4096x128 .fp8e4m3) : Vec F S1x1792x128 .fp8e4m3 := View.ld B (Rect.unit (k0_off2 k) S1x1792x128.size (k0_off2_inb k))
/-- The window's scales of k. -/
def ksw : Vec F S1x1x1x1792 .f32 := View.ld B9 (Rect.unit (k0_off3 k) S1x1x1x1792.size (k0_off3_inb k))
/-- The first 128 code rows of k or v. -/
def kf (B : Vec F S1x4096x128 .fp8e4m3) : Vec F S1x128x128 .fp8e4m3 := View.ld B (Rect.unit ![0, 0, 0] S1x128x128.size inb_S1x4096x128_S1x128x128_0_0_0)
/-- The first 128 scales of k. -/
def ksf : Vec F S1x1x1x128 .f32 := View.ld B9 (Rect.unit ![0, 0, 0, 0] S1x1x1x128.size inb_S1x1x1x4096_S1x1x1x128_0_0_0_0)

/-- The scale of the trip's rows of q. -/
def scr : FVec F S256x1 .f32 :=
  k0_pay9 (k0_pay3 (qx k B2)) (k0_pay4 (qx k B2)) (k0_pay7 (k0_pay3 (qx k B2)) (k0_pay5 (qx k B2)) (k0_pay6 (qx k B2)) 23#32)
    (k0_pay8 (k0_pay3 (qx k B2)) (k0_pay5 (qx k B2)) (k0_pay6 (qx k B2)) 23#32) 23#32
/-- The trip's masked scores of the window. -/
def s1r : FVec F S256x1792 .f32 :=
  k0_pay10 (q0w k) (k0w k) (qr k B6) (k0_pay3 (qx k B2)) (k0_pay4 (qx k B2)) (k0_pay7 (k0_pay3 (qx k B2)) (k0_pay5 (qx k B2)) (k0_pay6 (qx k B2)) 23#32)
    (k0_pay8 (k0_pay3 (qx k B2)) (k0_pay5 (qx k B2)) (k0_pay6 (qx k B2)) 23#32) 23#32 (kw k B8) (ksw k B9)

/-- What the trip stores. -/
def trW (vs : FVec F S1x128 .f32) : Vec F S1x256x128 .bf16 :=
  k0_pay1 vs (k0_pay13 (q0w k) (k0w k) (qr k B6) (scr k B2) (s1r k B2 B6 B8 B9) (kf B8) (ksf B9))
    (k0_pay14 (q0w k) (k0w k) (qr k B6) (scr k B2) (s1r k B2 B6 B8 B9) (kf B8) (ksf B9))
    (k0_pay15 (q0w k) (k0w k) (qr k B6) (scr k B2) (s1r k B2 B6 B8 B9) (kf B8) (ksf B9)) (kw k B10) (kf B10)

end

variable (c : Dev nD) (i : grid0.Coords) (a2 : Memref sig .tc .vmem S1x4096x128 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S1x4096x128 .bf16) (h5 : a5.IsWhole) (a6 : Memref sig .tc .vmem S1x4096x128 .fp8e4m3) (h6 : a6.IsWhole) (a7 : Memref sig .tc .vmem S1x1x1x4096 .f32) (h7 : a7.IsWhole) (a8 : Memref sig .tc .vmem S1x4096x128 .fp8e4m3) (h8 : a8.IsWhole) (a9 : Memref sig .tc .vmem S1x1x1x4096 .f32) (h9 : a9.IsWhole) (a10 : Memref sig .tc .vmem S1x4096x128 .fp8e4m3) (h10 : a10.IsWhole) (a11 : Memref sig .tc .vmem S1x1x1x128 .f32) (h11 : a11.IsWhole)
  (vs : FVec F S1x128 .f32) (X2 : BufTy.Contents (Elt F) a2.view.ty) (X6 : BufTy.Contents (Elt F) a6.view.ty)
  (X8 : BufTy.Contents (Elt F) a8.view.ty) (X9 : BufTy.Contents (Elt F) a9.view.ty) (X10 : BufTy.Contents (Elt F) a10.view.ty)

/-- The trip's one piece. -/
theorem trip_eq (k : Fin k0_t1_loop.trips) :
    tripL_k0_t1 Variants.none c none i a2 h2 a3 h3 a4 h4 a5 h5 a6 h6 a7 h7 a8 h8 a9 h9 a10 h10 a11 h11 vs 0#32 X2 X6 X8 X9 X10 k
      = [⟨Rect.unit (k0_off1 k) S1x256x128.size (k0_off1_inb k),
          trW k (a2.view.read (Elt F) X2) (a6.view.read (Elt F) X6) (a8.view.read (Elt F) X8) (a10.view.read (Elt F) X10)
            (a9.view.read (Elt F) X9) vs⟩] := by
  unfold tripL_k0_t1 trip_k0_t1
  dsimp only
  rfl

/-- The pieces of the first `n` trips, last first. -/
theorem pb_eq : ∀ n, n ≤ k0_t1_loop.trips → ∀ p ∈ pb_k0_t1 Variants.none c none i a2 h2 a3 h3 a4 h4 a5 h5 a6 h6 a7 h7 a8 h8 a9 h9 a10 h10 a11 h11 vs 0#32 X2 X6 X8 X9 X10 n,
    ∃ k : Fin k0_t1_loop.trips, p = ⟨Rect.unit (k0_off1 k) S1x256x128.size (k0_off1_inb k),
          trW k (a2.view.read (Elt F) X2) (a6.view.read (Elt F) X6) (a8.view.read (Elt F) X8) (a10.view.read (Elt F) X10)
            (a9.view.read (Elt F) X9) vs⟩
  | 0, _, p, hp => absurd hp (by rw [pb_k0_t1.eq_1]; exact List.not_mem_nil)
  | n + 1, hn, p, hp => by
    have e := pb_k0_t1_succ (F := F) Variants.none c none i a2 h2 a3 h3 a4 h4 a5 h5 a6 h6 a7 h7 a8 h8 a9 h9 a10 h10 a11 h11 vs 0#32 X2 X6 X8 X9 X10 ⟨n, hn⟩
    rw [show n + 1 = (⟨n, hn⟩ : Fin k0_t1_loop.trips).val + 1 from rfl, e, trip_eq, List.singleton_append, List.mem_cons] at hp
    rcases hp with rfl | hp
    · exact ⟨_, rfl⟩
    · exact pb_eq n (by omega) p hp

end Cert.KernelIdeal.Blk
-- ==== Proof.Pay.lean ====
module

public import proofs.«01_k».proof.Proof.Gen.KernelIdeal.Skeleton
public import Idealize.ShloMosaic.PureOps.Ideal.Laws
public import Idealize.ShloMosaic.Lib.Pointwise
public import Idealize.ShloMosaic.Lib.ValueIdx

@[expose] public section

set_option maxRecDepth 16384

/-! The loop's payloads, read at an index. -/

noncomputable section
namespace Cert.KernelIdeal.Blk

open Cert.KernelIdeal Cert.KernelIdeal.Gen Idealize.ShloMosaic

variable (q0 k0 : BitVec 32) (q : FVec Ideal S256x128 .fp8e4m3) (sc : FVec Ideal S256x1 .f32)
  (kc : Vec Ideal S1x1792x128 .fp8e4m3) (ks : Vec Ideal S1x1x1x1792 .f32) (kc0 : Vec Ideal S1x128x128 .fp8e4m3) (ks0 : Vec Ideal S1x1x1x128 .f32)
  (t : FVec Ideal S256x1 .f32) (z : IVec S256x1 1) (f g : IVec S256x1 32)
  (s1 : FVec Ideal S256x1792 .f32) (vs : FVec Ideal S1x128 .f32) (p1 : FVec Ideal S256x1792 .f32) (p2 : FVec Ideal S256x128 .f32) (l : FVec Ideal S256 .f32)
  (vc : Vec Ideal S1x1792x128 .fp8e4m3) (vc0 : Vec Ideal S1x128x128 .fp8e4m3)

/-- The word of the mask of key `a` at query `b`. -/
def maskw (a b : BitVec 32) : BitVec 1 :=
  IntOp.andi (IntOp.cmpi .sle a b) (IntOp.ori (IntOp.cmpi .sgt a (IntOp.subi b 1500#32)) (IntOp.cmpi .slt a 4#32))

theorem pay10_apply (h : k0_pay9 t z f g 23#32 = sc) (r : Fin 256) (j : Fin 1792) :
    k0_pay10 q0 k0 q t z f g 23#32 kc ks (ix2 r j)
      = Scalar.select (maskw (IntOp.addi k0 (BitVec.ofNat 32 j.val)) (IntOp.addi q0 (BitVec.ofNat 32 r.val)))
          ((∑ x : Fin 128, q (ix2 r x) * kc (ix3 (0 : Fin 1) j x)) *
            (sc (ix2 r (0 : Fin 1)) * ks (ix4 (0 : Fin 1) (0 : Fin 1) (0 : Fin 1) j) * (Named.named (F := Ideal) (φ := .f32) κ "sm_log2e" 0x3E0293EE#32 : EReal)))
          (Ideal.ofBits .f32 0xFF800000#32) := by
  unfold k0_pay10
  rw [h]
  pointwise
  rfl

theorem pay11_apply (r : Fin 256) (j : Fin 128) :
    k0_pay11 q0 k0 q sc kc0 ks0 (ix2 r j)
      = Scalar.select (IntOp.andi (IntOp.andi (maskw (BitVec.ofNat 32 j.val) (IntOp.addi q0 (BitVec.ofNat 32 r.val)))
            (IntOp.cmpi .slt (BitVec.ofNat 32 j.val) 4#32)) (Scalar.cmpi .sgt k0 0#32))
          ((∑ x : Fin 128, q (ix2 r x) * kc0 (ix3 (0 : Fin 1) j x)) *
            (sc (ix2 r (0 : Fin 1)) * ks0 (ix4 (0 : Fin 1) (0 : Fin 1) (0 : Fin 1) j) * (Named.named (F := Ideal) (φ := .f32) κ "sm_log2e" 0x3E0293EE#32 : EReal)))
          (Ideal.ofBits .f32 0xFF800000#32) := by
  unfold k0_pay11
  pointwise
  rfl

theorem pay12_apply (r : Fin 256) :
    k0_pay12 q0 k0 q sc s1 kc0 ks0 (ix2 r (0 : Fin 1))
      = max (Finset.univ.fold max (Ideal.ofBits .f32 0xFF800000#32) fun x : Fin 1792 => s1 (ix2 r x))
          (Finset.univ.fold max (Ideal.ofBits .f32 0xFF800000#32) fun x : Fin 128 => k0_pay11 q0 k0 q sc kc0 ks0 (ix2 r x)) := by
  unfold k0_pay12
  pointwise

theorem pay13_apply (r : Fin 256) (j : Fin 1792) :
    k0_pay13 q0 k0 q sc s1 kc0 ks0 (ix2 r j)
      = Ideal.exp2 (s1 (ix2 r j) - k0_pay12 q0 k0 q sc s1 kc0 ks0 (ix2 r (0 : Fin 1))) := by
  unfold k0_pay13
  pointwise
  rfl

theorem pay14_apply (r : Fin 256) (j : Fin 128) :
    k0_pay14 q0 k0 q sc s1 kc0 ks0 (ix2 r j)
      = Ideal.exp2 (k0_pay11 q0 k0 q sc kc0 ks0 (ix2 r j) - k0_pay12 q0 k0 q sc s1 kc0 ks0 (ix2 r (0 : Fin 1))) := by
  unfold k0_pay14
  pointwise
  rfl

theorem pay15_apply (r : Fin 256) :
    k0_pay15 q0 k0 q sc s1 kc0 ks0 (ix1 r) = ∑ x : Fin 1792, k0_pay13 q0 k0 q sc s1 kc0 ks0 (ix2 r x) := by
  unfold k0_pay15
  pointwise

/-- A probability's code. -/
def pcode (p : EReal) : EReal := min (Ideal.ofBits .f32 0x43E00000#32) (max 0 (p * Ideal.ofBits .f32 0x43800000#32))

theorem pay1_apply (r : Fin 256) (d : Fin 128) :
    k0_pay1 vs p1 p2 l vc vc0 (ix3 (0 : Fin 1) r d)
      = Ideal.div (((∑ x : Fin 1792, pcode (p1 (ix2 r x)) * vc (ix3 (0 : Fin 1) x d))
            + ∑ x : Fin 128, pcode (p2 (ix2 r x)) * vc0 (ix3 (0 : Fin 1) x d)) * vs (ix2 (0 : Fin 1) d) * Ideal.ofBits .f32 0x3B800000#32)
          (l (ix1 r) + ∑ x : Fin 128, p2 (ix2 r x)) := by
  unfold k0_pay1
  pointwise
  rfl

end Cert.KernelIdeal.Blk
-- ==== Proof.Open.lean ====
module

public import proofs.«01_k».proof.Proof.Gen.KernelIdeal.Value
public import Idealize.ShloMosaic.Lib.Pipeline.Value
public import Idealize.ShloMosaic.Lib.Tactic
public import Idealize.ShloMosaic.Lib.Tactic.RunNames

@[expose] public section

set_option maxRecDepth 16384

/-! What the body leaves in the code and scale windows: one whole store each, of the payload at the input block. -/

noncomputable section

namespace Cert.KernelIdeal.Blk

open Cert.KernelIdeal Cert.KernelIdeal.Gen Idealize.ShloMosaic Idealize.ShloMosaic.TcCoe Idealize.SL.Sem

variable {F : FTy → Type} [FloatOps F] [Named F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A whole load of an input block reads the block. -/
theorem rd (a : Memref sig .tc .vmem S1x4096x128 .bf16) (h : a.IsWhole) (x : Vec F S1x4096x128 .bf16) :
    View.readAt (Elt F) a.view (Rect.unit ![0, 0, 0] S1x4096x128.size inb_S1x4096x128_S1x4096x128_0_0_0).toLoadRect (h.unread x) = x := by
  rw [View.readAt_eq_ld, h.read_unread, View.ld_unit_zero hz3]

variable (c : Dev nD) (i : grid0.Coords) (a2 : Memref sig .tc .vmem S1x4096x128 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S1x4096x128 .bf16) (h5 : a5.IsWhole) (a6 : Memref sig .tc .vmem S1x4096x128 .fp8e4m3) (h6 : a6.IsWhole) (a7 : Memref sig .tc .vmem S1x1x1x4096 .f32) (h7 : a7.IsWhole) (a8 : Memref sig .tc .vmem S1x4096x128 .fp8e4m3) (h8 : a8.IsWhole) (a9 : Memref sig .tc .vmem S1x1x1x4096 .f32) (h9 : a9.IsWhole) (a10 : Memref sig .tc .vmem S1x4096x128 .fp8e4m3) (h10 : a10.IsWhole) (a11 : Memref sig .tc .vmem S1x1x1x128 .f32) (h11 : a11.IsWhole)
  (x0 x1 x2 : Vec F S1x4096x128 .bf16)

/-- The codes of q of a block. -/
def cq (x : Vec F S1x4096x128 .bf16) : Vec F S1x4096x128 .fp8e4m3 :=
  k0_pay23 (k0_pay16 x) (k0_pay18 x) (k0_pay21 (k0_pay17 x) (k0_pay19 x) (k0_pay20 x) 23#32) 0#32
/-- The scales of q of a block. -/
def sq (x : Vec F S1x4096x128 .bf16) : Vec F S1x1x1x4096 .f32 :=
  k0_pay24 (k0_pay18 x) (k0_pay21 (k0_pay17 x) (k0_pay19 x) (k0_pay20 x) 23#32) 0#32
/-- The codes of k of a block. -/
def ck (x : Vec F S1x4096x128 .bf16) : Vec F S1x4096x128 .fp8e4m3 :=
  k0_pay34 (k0_pay32 (k0_pay25 x) (k0_pay26 x) (k0_pay27 x) (k0_pay29 (k0_pay26 x) k0_pay28 128#32) 4#32)
    (Scalar.ofBits .f32 0x43E00000#32) k0_pay33
/-- The scales of k of a block. -/
def sk (x : Vec F S1x4096x128 .bf16) : Vec F S1x1x1x4096 .f32 :=
  k0_pay35 (k0_pay31 (k0_pay26 x) (k0_pay27 x) (k0_pay29 (k0_pay26 x) k0_pay28 128#32) 4#32)
/-- The codes of v of a block. -/
def cv (x : Vec F S1x4096x128 .bf16) : Vec F S1x4096x128 .fp8e4m3 :=
  k0_pay47 (k0_pay36 x) (k0_pay37 x) (k0_pay38 x) (k0_pay42 (k0_pay37 x) (k0_pay39 x) (k0_pay40 x) k0_pay41)
    (k0_pay43 (k0_pay37 x) (k0_pay39 x) (k0_pay40 x) k0_pay41) k0_pay44
/-- The scales of v of a block. -/
def sv (x : Vec F S1x4096x128 .bf16) : Vec F S1x1x1x128 .f32 :=
  k0_pay48 (k0_pay37 x) (k0_pay38 x) (k0_pay42 (k0_pay37 x) (k0_pay39 x) (k0_pay40 x) k0_pay41)
    (k0_pay43 (k0_pay37 x) (k0_pay39 x) (k0_pay40 x) k0_pay41) k0_pay44
/-- The scales of v of a block, as the loop reads them. -/
def svl (x : Vec F S1x4096x128 .bf16) : FVec F S1x128 .f32 :=
  k0_pay46 (k0_pay37 x) (k0_pay38 x) (k0_pay42 (k0_pay37 x) (k0_pay39 x) (k0_pay40 x) k0_pay41)
    (k0_pay43 (k0_pay37 x) (k0_pay39 x) (k0_pay40 x) k0_pay41) k0_pay44

theorem out4 : out0_A_4 c i a2 h2 a3 h3 a4 h4 a5 h5 a6 h6 a7 h7 a8 h8 a9 h9 a10 h10 a11 h11 x0 x1 x2 = cq x0 := by
  unfold out0_A_4
  rw [View.read_writes_eq_canon _ _ _ (cover0_A_4 c i a2 h2 a3 h3 a4 h4 a5 h5 a6 h6 a7 h7 a8 h8 a9 h9 a10 h10 a11 h11 x0 x1 x2)]
  unfold kernelRun0_A
  dsimp only
  unfold kernelRun0_A.sl.H4_1
  rw [View.canon_unit_zero hz3]
  conv_rhs => rw [← rd a2 h2 x0]
  rfl

theorem out5 : out0_A_5 c i a2 h2 a3 h3 a4 h4 a5 h5 a6 h6 a7 h7 a8 h8 a9 h9 a10 h10 a11 h11 x0 x1 x2 = sq x0 := by
  unfold out0_A_5
  rw [View.read_writes_eq_canon _ _ _ (cover0_A_5 c i a2 h2 a3 h3 a4 h4 a5 h5 a6 h6 a7 h7 a8 h8 a9 h9 a10 h10 a11 h11 x0 x1 x2)]
  unfold kernelRun0_A
  dsimp only
  unfold kernelRun0_A.sl.H5_1
  rw [View.canon_unit_zero hz4]
  conv_rhs => rw [← rd a2 h2 x0]
  rfl

theorem out6 : out0_A_6 c i a2 h2 a3 h3 a4 h4 a5 h5 a6 h6 a7 h7 a8 h8 a9 h9 a10 h10 a11 h11 x0 x1 x2 = ck x1 := by
  unfold out0_A_6
  rw [View.read_writes_eq_canon _ _ _ (cover0_A_6 c i a2 h2 a3 h3 a4 h4 a5 h5 a6 h6 a7 h7 a8 h8 a9 h9 a10 h10 a11 h11 x0 x1 x2)]
  unfold kernelRun0_A
  dsimp only
  unfold kernelRun0_A.sl.H6_1
  rw [View.canon_unit_zero hz3]
  conv_rhs => rw [← rd a3 h3 x1]
  rfl

theorem out7 : out0_A_7 c i a2 h2 a3 h3 a4 h4 a5 h5 a6 h6 a7 h7 a8 h8 a9 h9 a10 h10 a11 h11 x0 x1 x2 = sk x1 := by
  unfold out0_A_7
  rw [View.read_writes_eq_canon _ _ _ (cover0_A_7 c i a2 h2 a3 h3 a4 h4 a5 h5 a6 h6 a7 h7 a8 h8 a9 h9 a10 h10 a11 h11 x0 x1 x2)]
  unfold kernelRun0_A
  dsimp only
  unfold kernelRun0_A.sl.H7_1
  rw [View.canon_unit_zero hz4]
  conv_rhs => rw [← rd a3 h3 x1]
  rfl

theorem out8 : out0_A_8 c i a2 h2 a3 h3 a4 h4 a5 h5 a6 h6 a7 h7 a8 h8 a9 h9 a10 h10 a11 h11 x0 x1 x2 = cv x2 := by
  unfold out0_A_8
  rw [View.read_writes_eq_canon _ _ _ (cover0_A_8 c i a2 h2 a3 h3 a4 h4 a5 h5 a6 h6 a7 h7 a8 h8 a9 h9 a10 h10 a11 h11 x0 x1 x2)]
  unfold kernelRun0_A
  dsimp only
  unfold kernelRun0_A.sl.H8_1
  rw [View.canon_unit_zero hz3]
  conv_rhs => rw [← rd a4 h4 x2]
  rfl

theorem out9 : out0_A_9 c i a2 h2 a3 h3 a4 h4 a5 h5 a6 h6 a7 h7 a8 h8 a9 h9 a10 h10 a11 h11 x0 x1 x2 = sv x2 := by
  unfold out0_A_9
  rw [View.read_writes_eq_canon _ _ _ (cover0_A_9 c i a2 h2 a3 h3 a4 h4 a5 h5 a6 h6 a7 h7 a8 h8 a9 h9 a10 h10 a11 h11 x0 x1 x2)]
  unfold kernelRun0_A
  dsimp only
  unfold kernelRun0_A.sl.H9_1
  rw [View.canon_unit_zero hz4]
  conv_rhs => rw [← rd a4 h4 x2]
  rfl

/-- The loop's scales of v. -/
theorem r19 : kernelRun0_A.sl.r_19 c a4 h4 x2 = svl x2 := by
  conv_rhs => rw [← rd a4 h4 x2]
  rfl

end Cert.KernelIdeal.Blk
-- ==== Proof.Scale.lean ====
module

public import Idealize.ShloMosaic.PureOps.Ideal.Laws

@[expose] public section

/-! The power-of-two scale of one row: the kernel finds the exponent by a search over the eight bits of a
float's exponent field, the reference by a logarithm; over the extended reals they are the same number. -/

noncomputable section

namespace Cert.Scale

open Idealize.ShloMosaic

/-- The f32 whose exponent field is the word `w` and whose fraction is zero. -/
abbrev pat (w : BitVec 32) : EReal := Ideal.ofBits .f32 (IntOp.shli .vector w 23#32)

/-- One step of the kernel's search: the bit `b` stays in the field if the power it names is at most `t`. -/
def step (t : EReal) (f b : BitVec 32) : BitVec 32 :=
  if Ideal.cmp .oge t (pat (f + b)) = 1 then f + b else f

/-- The kernel's exponent field of `t`: eight steps from the highest bit. -/
def field (t : EReal) : BitVec 32 :=
  step t (step t (step t (step t (step t (step t (step t (step t 0#32 128#32) 64#32) 32#32) 16#32) 8#32) 4#32) 2#32) 1#32

/-- The kernel's exponent: the field less 126, and 0 at a zero maximum. -/
def kexp (t : EReal) : BitVec 32 :=
  if Ideal.cmp .oeq t (Ideal.ofBits .f32 0x00000000#32) = 1 then 0#32 else field t - 126#32

/-- The kernel's scale. -/
def kscale (t : EReal) : EReal := pat (kexp t + 127#32)
/-- The kernel's inverse scale. -/
def kinv (t : EReal) : EReal := pat (127#32 - kexp t)

/-- The factor 1/448 as the f32 both sides write. -/
abbrev c448 : EReal := Ideal.ofBits .f32 0x3B124925#32

/-- The reference's exponent at the maximum `a`. -/
def rexp (a : EReal) : EReal :=
  if Ideal.cmp .oeq a (Ideal.ofBits .f32 0x00000000#32) = 1 then Ideal.ofBits .f32 0x00000000#32
  else max (Ideal.liftRound Int.floor (Ideal.div (Ideal.log (a * c448)) (Ideal.log (Ideal.ofBits .f32 0x40000000#32)))
    + Ideal.ofBits .f32 0x3F800000#32) (Ideal.ofBits .f32 0xC2FC0000#32)

/-- The reference's scale. -/
def rscale (a : EReal) : EReal := Ideal.exp2 (rexp a)
/-- The reference's inverse scale. -/
def rinv (a : EReal) : EReal := Ideal.exp2 (Ideal.ofBits .f32 0x00000000#32 - rexp a)

/-- The power that a field names: 0 at field 0, the infinity from field 255. -/
def pw (n : ℕ) : EReal := if n = 0 then 0 else if 255 ≤ n then ⊤ else (((2 : ℝ) ^ ((n : ℤ) - 127) : ℝ) : EReal)

theorem ieee_field (n : ℕ) (h : n ≤ 255) (w : BitVec 32) (hw : w.toNat = n * 8388608) : Ideal.ieee 8 23 w = pw n := by
  have e1 : (BitVec.extractLsb' 31 1 w) = 0#1 := by
    apply BitVec.eq_of_toNat_eq
    rw [BitVec.extractLsb'_toNat, hw, Nat.shiftRight_eq_div_pow]
    show n * 8388608 / 2147483648 % 2 = 0
    omega
  have e2 : (BitVec.extractLsb' 23 8 w).toNat = n := by
    rw [BitVec.extractLsb'_toNat, hw, Nat.shiftRight_eq_div_pow]
    show n * 8388608 / 8388608 % 256 = n
    omega
  have e3 : (BitVec.extractLsb' 0 23 w).toNat = 0 := by
    rw [BitVec.extractLsb'_toNat, hw, Nat.shiftRight_eq_div_pow]
    show n * 8388608 / 1 % 8388608 = 0
    omega
  unfold Ideal.ieee pw
  dsimp only
  rw [show (8 + 23 : ℕ) = 31 from rfl, e1, e2, e3]
  by_cases h1 : 255 ≤ n
  · rw [if_pos (by omega), if_pos rfl, if_neg (by decide), if_neg (by omega : ¬ n = 0), if_pos h1]
  by_cases h0 : n = 0
  · rw [if_neg (by omega), if_pos h0, if_pos h0]; simp
  rw [if_neg (by omega), if_neg h0, if_neg h0, if_neg h1]
  congr 1
  rw [show ((n : ℤ) - 127) = 23 + ((n : ℤ) - (2 ^ (8 - 1) - 1) - (23 : ℕ)) by push_cast; ring, zpow_add₀ (by norm_num)]
  norm_num

theorem pat_ofNat (n : ℕ) (h : n ≤ 255) : pat (BitVec.ofNat 32 n) = pw n := by
  refine ieee_field n h _ ?_
  unfold IntOp.shli
  rw [if_pos (by decide), BitVec.shiftLeft_eq', BitVec.toNat_shiftLeft, Nat.shiftLeft_eq, BitVec.toNat_ofNat]
  show (n % 4294967296 * 8388608) % 4294967296 = _
  omega

theorem cmp_oge (t p : EReal) : (Ideal.cmp .oge t p = 1) ↔ p ≤ t := by
  unfold Ideal.cmp; by_cases h : p ≤ t <;> simp [h]

theorem cmp_oeq (t p : EReal) : (Ideal.cmp .oeq t p = 1) ↔ t = p := by
  unfold Ideal.cmp; by_cases h : t = p <;> simp [h]

theorem step_spec (t : EReal) (n b : ℕ) (hb : 1 ≤ b) (h : n + 2 * b ≤ 256) (h1 : pw n ≤ t) (h2 : t < pw (n + 2 * b)) :
    ∃ n', step t (BitVec.ofNat 32 n) (BitVec.ofNat 32 b) = BitVec.ofNat 32 n' ∧ n' + b ≤ 256 ∧ pw n' ≤ t ∧ t < pw (n' + b) := by
  unfold step
  rw [← BitVec.ofNat_add, pat_ofNat _ (by omega)]
  simp only [cmp_oge]
  by_cases hp : pw (n + b) ≤ t
  · rw [if_pos hp]
    exact ⟨n + b, rfl, by omega, hp, by rw [show n + b + b = n + 2 * b by omega]; exact h2⟩
  · rw [if_neg hp]
    exact ⟨n, rfl, by omega, h1, not_le.mp hp⟩

theorem field_spec (t : EReal) (h0 : 0 ≤ t) (h1 : t < ⊤) :
    ∃ n, field t = BitVec.ofNat 32 n ∧ pw n ≤ t ∧ t < pw (n + 1) := by
  unfold field
  obtain ⟨a, e, b, l, u⟩ := step_spec t 0 128 (by decide) (by decide) (by simpa [pw] using h0) (by simpa [pw] using h1)
  rw [show (0#32) = BitVec.ofNat 32 0 from rfl, show (128#32) = BitVec.ofNat 32 128 from rfl, e]
  obtain ⟨a, e, b, l, u⟩ := step_spec t a 64 (by decide) (by omega) l u
  rw [e]
  obtain ⟨a, e, b, l, u⟩ := step_spec t a 32 (by decide) (by omega) l u
  rw [e]
  obtain ⟨a, e, b, l, u⟩ := step_spec t a 16 (by decide) (by omega) l u
  rw [e]
  obtain ⟨a, e, b, l, u⟩ := step_spec t a 8 (by decide) (by omega) l u
  rw [e]
  obtain ⟨a, e, b, l, u⟩ := step_spec t a 4 (by decide) (by omega) l u
  rw [e]
  obtain ⟨a, e, b, l, u⟩ := step_spec t a 2 (by decide) (by omega) l u
  rw [e]
  obtain ⟨a, e, b, l, u⟩ := step_spec t a 1 (by decide) (by omega) l u
  exact ⟨a, e, l, u⟩

theorem c448_eq : c448 = ((9586981 * (2 : ℝ) ^ (-32 : ℤ) : ℝ) : EReal) := by
  simp [c448, Ideal.ofBits, Ideal.ieee, -EReal.coe_mul]
theorem two_eq : Ideal.ofBits .f32 0x40000000#32 = ((2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem m126_eq : Ideal.ofBits .f32 0xC2FC0000#32 = ((-126 : ℝ) : EReal) := by
  simp [Ideal.ofBits, Ideal.ieee, -EReal.coe_mul]; norm_num

theorem pw_mid (n : ℕ) (h0 : n ≠ 0) (h1 : n < 255) : pw n = (((2 : ℝ) ^ ((n : ℤ) - 127) : ℝ) : EReal) := by
  unfold pw; rw [if_neg h0, if_neg (by omega)]

theorem exp2_int (E : ℤ) : Ideal.exp2 (((E : ℝ)) : EReal) = (((2 : ℝ) ^ E : ℝ) : EReal) := by
  show ((Real.rpow 2 (E : ℝ) : ℝ) : EReal) = _
  congr 1; exact Real.rpow_intCast 2 E

theorem mul_c448 (a : ℝ) : (a : EReal) * c448 = ((a * (9586981 * (2 : ℝ) ^ (-32 : ℤ)) : ℝ) : EReal) := by
  rw [c448_eq, ← EReal.coe_mul]

/-- For a finite maximum the kernel's scale and the reference's are one power of two, and their inverses too. -/
theorem scale_eq (a : ℝ) (h0 : 0 ≤ a) (h1 : a < 2 ^ 128) :
    ∃ E : ℤ, kscale ((a : EReal) * c448) = (((2 : ℝ) ^ E : ℝ) : EReal) ∧ rscale a = (((2 : ℝ) ^ E : ℝ) : EReal)
      ∧ kinv ((a : EReal) * c448) = (((2 : ℝ) ^ (-E) : ℝ) : EReal) ∧ rinv a = (((2 : ℝ) ^ (-E) : ℝ) : EReal) := by
  have z : Ideal.ofBits .f32 0x00000000#32 = 0 := Ideal.ofBits_zero_f32
  rcases h0.eq_or_lt with h | hpos
  · subst h
    refine ⟨0, ?_, ?_, ?_, ?_⟩
    · unfold kscale kexp
      rw [if_pos ((cmp_oeq _ _).2 (by rw [z]; simp))]
      exact (pat_ofNat 127 (by decide)).trans (by rw [pw_mid _ (by decide) (by decide)]; norm_num)
    · unfold rscale rexp
      rw [if_pos ((cmp_oeq _ _).2 (by rw [z]; simp)), z]
      simpa using exp2_int 0
    · unfold kinv kexp
      rw [if_pos ((cmp_oeq _ _).2 (by rw [z]; simp))]
      exact (pat_ofNat 127 (by decide)).trans (by rw [pw_mid _ (by decide) (by decide)]; norm_num)
    · unfold rinv rexp
      rw [if_pos ((cmp_oeq _ _).2 (by rw [z]; simp)), z]
      simpa using exp2_int 0
  · rw [mul_c448]
    obtain ⟨t, ht⟩ : ∃ t : ℝ, t = a * (9586981 * (2 : ℝ) ^ (-32 : ℤ)) := ⟨_, rfl⟩
    have htp : 0 < t := by rw [ht]; positivity
    have htl : t < 2 ^ 120 := by
      rw [ht]
      calc a * (9586981 * (2 : ℝ) ^ (-32 : ℤ)) < 2 ^ 128 * (9586981 * (2 : ℝ) ^ (-32 : ℤ)) := by gcongr
        _ < 2 ^ 120 := by norm_num
    obtain ⟨n, hf, hl, hu⟩ := field_spec (t : EReal) (by exact_mod_cast htp.le) (EReal.coe_lt_top t)
    have hn : n ≤ 246 := by
      by_contra hc
      rcases lt_or_ge n 255 with h | h
      · rw [pw_mid n (by omega) h, EReal.coe_le_coe_iff] at hl
        have : (2 : ℝ) ^ (120 : ℤ) ≤ (2 : ℝ) ^ ((n : ℤ) - 127) := zpow_le_zpow_right₀ (by norm_num) (by omega)
        have e : (2 : ℝ) ^ (120 : ℤ) = 2 ^ 120 := by norm_num
        linarith
      · unfold pw at hl
        rw [if_neg (by omega), if_pos h] at hl
        exact absurd hl (not_le.2 (EReal.coe_lt_top t))
    have hk : kexp (t : EReal) = BitVec.ofNat 32 n - 126#32 := by
      unfold kexp
      rw [if_neg (by rw [cmp_oeq, z]; exact_mod_cast htp.ne'), hf]
    have hr : rexp (a : EReal) = ((((n : ℤ) - 126 : ℤ) : ℝ) : EReal) := by
      unfold rexp
      rw [if_neg (by rw [cmp_oeq, z]; exact_mod_cast hpos.ne'), mul_c448, ← ht, two_eq, one_eq, m126_eq]
      have l1 : Ideal.log (t : EReal) = ((Real.log t : ℝ) : EReal) := by
        show (if t ≤ 0 then ⊥ else ((Real.log t : ℝ) : EReal)) = _; rw [if_neg (not_le.2 htp)]
      have l2 : Ideal.log ((2 : ℝ) : EReal) = ((Real.log 2 : ℝ) : EReal) := by
        show (if (2 : ℝ) ≤ 0 then ⊥ else ((Real.log 2 : ℝ) : EReal)) = _; rw [if_neg (by norm_num)]
      have hlog : 0 < Real.log 2 := Real.log_pos (by norm_num)
      have l3 : Ideal.div ((Real.log t : ℝ) : EReal) ((Real.log 2 : ℝ) : EReal) = ((Real.log t / Real.log 2 : ℝ) : EReal) := by
        unfold Ideal.div
        rw [if_neg (by exact_mod_cast hlog.ne'), ← EReal.coe_inv, ← EReal.coe_mul, div_eq_mul_inv]
      rw [l1, l2, l3]
      show max (((⌊Real.log t / Real.log 2⌋ : ℝ) : EReal) + ((1 : ℝ) : EReal)) ((-126 : ℝ) : EReal) = _
      rw [← EReal.coe_add, ← EReal.coe_strictMono.monotone.map_max]
      congr 1
      have hup : Real.log t / Real.log 2 < (n : ℝ) - 126 := by
        rw [pw_mid (n + 1) (by omega) (by omega), EReal.coe_lt_coe_iff] at hu
        have := Real.log_lt_log htp hu
        rw [Real.log_zpow] at this
        push_cast at this
        rw [div_lt_iff₀ hlog]; linarith
      by_cases hn0 : n = 0
      · subst hn0
        have hfl : ⌊Real.log t / Real.log 2⌋ ≤ -127 := by
          have : ⌊Real.log t / Real.log 2⌋ < -126 := Int.floor_lt.2 (by push_cast; simpa using hup)
          omega
        have : ((⌊Real.log t / Real.log 2⌋ : ℤ) : ℝ) ≤ -127 := by exact_mod_cast hfl
        rw [max_eq_right (by linarith)]; push_cast; ring
      · rw [pw_mid n hn0 (by omega), EReal.coe_le_coe_iff] at hl
        have h3 := Real.log_le_log (by positivity) hl
        rw [Real.log_zpow, ← le_div_iff₀ hlog] at h3
        push_cast at h3
        have hfl : ⌊Real.log t / Real.log 2⌋ = (n : ℤ) - 127 := by
          rw [Int.floor_eq_iff]; push_cast; constructor <;> linarith
        rw [hfl]; push_cast
        have : (1 : ℝ) ≤ n := by exact_mod_cast Nat.one_le_iff_ne_zero.2 hn0
        rw [max_eq_left (by linarith)]; ring
    refine ⟨(n : ℤ) - 126, ?_, ?_, ?_, ?_⟩
    · unfold kscale
      rw [← ht, hk, show BitVec.ofNat 32 n - 126#32 + 127#32 = BitVec.ofNat 32 (n + 1) by
        apply BitVec.eq_of_toNat_eq; simp; omega, pat_ofNat _ (by omega), pw_mid _ (by omega) (by omega)]
      congr 2; push_cast; ring
    · unfold rscale; rw [hr, exp2_int]
    · unfold kinv
      rw [← ht, hk, show 127#32 - (BitVec.ofNat 32 n - 126#32) = BitVec.ofNat 32 (253 - n) by
        apply BitVec.eq_of_toNat_eq; simp; omega, pat_ofNat _ (by omega), pw_mid _ (by omega) (by omega)]
      congr 2; omega
    · unfold rinv
      rw [hr, z, zero_sub, ← EReal.coe_neg, ← exp2_int]; push_cast; rfl

end Cert.Scale
-- ==== Proof.Expo.lean ====
module

public import proofs.«01_k».proof.Proof.Gen.KernelIdeal.Skeleton
public import proofs.«01_k».proof.Proof.Scale

@[expose] public section

set_option maxRecDepth 16384

/-! The kernel's four exponent computations (rows of q, of k, channels of v, and the recomputed rows of q in the
loop) are one function of the scaled maximum at each index. -/

noncomputable section

namespace Cert.KernelIdeal.Blk

open Cert.KernelIdeal Cert.KernelIdeal.Gen Idealize.ShloMosaic Cert.Scale

/-- One search step over a vector. -/
def stV {s : Shape} (t : FVec Ideal s .f32) (f : IVec s 32) (b : BitVec 32) : IVec s 32 := fun i => step (t i) (f i) b

/-- One search step over a vector, as the kernel writes it, is the scalar step at each index. -/
theorem stepV {s : Shape} (t : FVec Ideal s .f32) (f : IVec s 32) (b : BitVec 32) :
    select (cmpf .oge t (bitcastToFloat .f32 (@shli s 32 (@addi s 32 f (broadcast s b)) (broadcast s 23#32))))
      (@addi s 32 f (broadcast s b)) f = stV t f b := rfl

/-- The exponents of the rows of q. -/
theorem exp_q (x : Vec Ideal S1x4096x128 .bf16) :
    k0_pay22 (k0_pay18 x) (k0_pay21 (k0_pay17 x) (k0_pay19 x) (k0_pay20 x) 23#32) 0#32 = fun i => kexp (k0_pay17 x i) := by
  unfold k0_pay22 k0_pay21 k0_pay20 k0_pay19 k0_pay18
  dsimp only
  simp only [stepV]
  generalize k0_pay17 x = t
  funext i
  simp only [select, subi, addi, shli, bitcastToFloat, broadcast, stV, cmpf, Scalar.select, IntOp.subi, IntOp.addi, kexp, kscale, pat, field]
  rfl

/-- The exponents of the rows of k. -/
theorem exp_k (x : Vec Ideal S1x4096x128 .bf16) :
    k0_pay30 (k0_pay26 x) (k0_pay27 x) (k0_pay29 (k0_pay26 x) k0_pay28 128#32) 4#32 = fun i => kexp (k0_pay26 x i) := by
  unfold k0_pay30 k0_pay29 k0_pay28 k0_pay27
  dsimp only
  simp only [stepV]
  generalize k0_pay26 x = t
  funext i
  simp only [select, subi, addi, shli, bitcastToFloat, broadcast, stV, cmpf, Scalar.select, IntOp.subi, IntOp.addi, kexp, kscale, pat, field]
  rfl

/-- The exponents of the channels of v. -/
theorem exp_v (x : Vec Ideal S1x4096x128 .bf16) :
    k0_pay45 (k0_pay37 x) (k0_pay38 x) (k0_pay42 (k0_pay37 x) (k0_pay39 x) (k0_pay40 x) k0_pay41)
      (k0_pay43 (k0_pay37 x) (k0_pay39 x) (k0_pay40 x) k0_pay41) k0_pay44 = fun i => kexp (k0_pay37 x i) := by
  unfold k0_pay45 k0_pay43 k0_pay42 k0_pay40 k0_pay39 k0_pay38 k0_pay41 k0_pay44
  dsimp only
  simp only [stepV]
  generalize k0_pay37 x = t
  funext i
  simp only [select, subi, addi, shli, bitcastToFloat, broadcast, stV, cmpf, Scalar.select, IntOp.subi, IntOp.addi, kexp, kscale, pat, field]
  rfl

/-- The scales of the loop's rows of q. -/
theorem scale_loop (x : Vec Ideal S1x256x128 .bf16) :
    k0_pay9 (k0_pay3 x) (k0_pay4 x) (k0_pay7 (k0_pay3 x) (k0_pay5 x) (k0_pay6 x) 23#32)
      (k0_pay8 (k0_pay3 x) (k0_pay5 x) (k0_pay6 x) 23#32) 23#32 = fun i => kscale (k0_pay3 x i) := by
  unfold k0_pay9 k0_pay8 k0_pay7 k0_pay6 k0_pay5 k0_pay4
  dsimp only
  simp only [stepV]
  generalize k0_pay3 x = t
  funext i
  simp only [select, subi, addi, shli, bitcastToFloat, broadcast, stV, cmpf, Scalar.select, IntOp.subi, IntOp.addi, kexp, kscale, pat, field]
  rfl

end Cert.KernelIdeal.Blk
-- ==== Proof.Quant.lean ====
module

public import proofs.«01_k».proof.Proof.Expo
public import Idealize.ShloMosaic.Lib.Pointwise
public import Idealize.ShloMosaic.Lib.ValueIdx

@[expose] public section

set_option maxRecDepth 16384

/-! The kernel's quantised blocks, read at an index. -/

noncomputable section

namespace Cert.Scale

open Idealize.ShloMosaic

/-- The largest absolute value of `f`, folded from minus infinity. -/
def amax {n : ℕ} (f : Fin n → EReal) : EReal :=
  Finset.univ.fold max (Ideal.ofBits .f32 0xFF800000#32) fun d => max (f d) (-(f d))

/-- A value clipped to ±448. -/
def clip (y : EReal) : EReal := min (Ideal.ofBits .f32 0x43E00000#32) (max (Ideal.ofBits .f32 0xC3E00000#32) y)

/-- The code of the element `x` of a row or channel whose largest absolute value is `a`. -/
def code (a x : EReal) : EReal := clip (x * kinv (a * c448))

end Cert.Scale

namespace Cert.KernelIdeal.Blk

open Cert.KernelIdeal Cert.KernelIdeal.Gen Idealize.ShloMosaic Cert.Scale

/-- The largest absolute value of row `s` of a block. -/
def rmax (x : Vec Ideal S1x4096x128 .bf16) (s : Fin 4096) : EReal := amax fun d : Fin 128 => x (ix3 (0 : Fin 1) s d)
/-- The largest absolute value of channel `d` of a block. -/
def cmax (x : Vec Ideal S1x4096x128 .bf16) (d : Fin 128) : EReal := amax fun s : Fin 4096 => x (ix3 (0 : Fin 1) s d)

theorem pay17_apply (x : Vec Ideal S1x4096x128 .bf16) (s : Fin 4096) : k0_pay17 x (ix2 s (0 : Fin 1)) = rmax x s * c448 := by
  unfold k0_pay17 k0_pay16
  pointwise
  rfl

theorem pay26_apply (x : Vec Ideal S1x4096x128 .bf16) (s : Fin 4096) : k0_pay26 x (ix2 s (0 : Fin 1)) = rmax x s * c448 := by
  unfold k0_pay26 k0_pay25
  pointwise
  rfl

theorem pay37_apply (x : Vec Ideal S1x4096x128 .bf16) (d : Fin 128) : k0_pay37 x (ix2 (0 : Fin 1) d) = cmax x d * c448 := by
  unfold k0_pay37 k0_pay36
  pointwise
  rfl

/-- The stored codes of q. -/
theorem codes_q (x : Vec Ideal S1x4096x128 .bf16) (s : Fin 4096) (d : Fin 128) :
    k0_pay23 (k0_pay16 x) (k0_pay18 x) (k0_pay21 (k0_pay17 x) (k0_pay19 x) (k0_pay20 x) 23#32) 0#32 (ix3 (0 : Fin 1) s d)
      = code (rmax x s) (x (ix3 (0 : Fin 1) s d)) := by
  unfold k0_pay23 k0_pay16
  rw [exp_q]
  pointwise
  rw [pay17_apply]
  rfl

/-- The stored scales of q. -/
theorem scale_q (x : Vec Ideal S1x4096x128 .bf16) (s : Fin 4096) :
    k0_pay24 (F := Ideal) (k0_pay18 x) (k0_pay21 (k0_pay17 x) (k0_pay19 x) (k0_pay20 x) 23#32) 0#32
      (ix4 (0 : Fin 1) (0 : Fin 1) (0 : Fin 1) s) = kscale (rmax x s * c448) := by
  unfold k0_pay24
  rw [exp_q]
  pointwise
  rw [pay17_apply]
  rfl

/-- The stored codes of k. -/
theorem codes_k (x : Vec Ideal S1x4096x128 .bf16) (s : Fin 4096) (d : Fin 128) :
    k0_pay34 (k0_pay32 (k0_pay25 x) (k0_pay26 x) (k0_pay27 x) (k0_pay29 (k0_pay26 x) k0_pay28 128#32) 4#32)
      (Scalar.ofBits .f32 0x43E00000#32) k0_pay33 (ix3 (0 : Fin 1) s d) = code (rmax x s) (x (ix3 (0 : Fin 1) s d)) := by
  unfold k0_pay34 k0_pay33 k0_pay32 k0_pay25
  rw [exp_k]
  pointwise
  rw [pay26_apply]
  rfl

/-- The stored scales of k. -/
theorem scale_k (x : Vec Ideal S1x4096x128 .bf16) (s : Fin 4096) :
    k0_pay35 (k0_pay31 (k0_pay26 x) (k0_pay27 x) (k0_pay29 (k0_pay26 x) k0_pay28 128#32) 4#32)
      (ix4 (0 : Fin 1) (0 : Fin 1) (0 : Fin 1) s) = kscale (rmax x s * c448) := by
  unfold k0_pay35 k0_pay31
  rw [exp_k]
  pointwise
  rw [pay26_apply]
  rfl

/-- The stored codes of v. -/
theorem codes_v (x : Vec Ideal S1x4096x128 .bf16) (s : Fin 4096) (d : Fin 128) :
    k0_pay47 (k0_pay36 x) (k0_pay37 x) (k0_pay38 x) (k0_pay42 (k0_pay37 x) (k0_pay39 x) (k0_pay40 x) k0_pay41)
      (k0_pay43 (k0_pay37 x) (k0_pay39 x) (k0_pay40 x) k0_pay41) k0_pay44 (ix3 (0 : Fin 1) s d)
      = code (cmax x d) (x (ix3 (0 : Fin 1) s d)) := by
  unfold k0_pay47 k0_pay36
  rw [exp_v]
  pointwise
  rw [pay37_apply]
  rfl

/-- The scales of v, as the loop reads them. -/
theorem scale_v' (x : Vec Ideal S1x4096x128 .bf16) (d : Fin 128) :
    k0_pay46 (k0_pay37 x) (k0_pay38 x) (k0_pay42 (k0_pay37 x) (k0_pay39 x) (k0_pay40 x) k0_pay41)
      (k0_pay43 (k0_pay37 x) (k0_pay39 x) (k0_pay40 x) k0_pay41) k0_pay44 (ix2 (0 : Fin 1) d)
      = kscale (cmax x d * c448) := by
  unfold k0_pay46
  rw [exp_v]
  pointwise
  rw [pay37_apply]
  rfl

/-- The stored scales of v. -/
theorem scale_v (x : Vec Ideal S1x4096x128 .bf16) (d : Fin 128) :
    k0_pay48 (k0_pay37 x) (k0_pay38 x) (k0_pay42 (k0_pay37 x) (k0_pay39 x) (k0_pay40 x) k0_pay41)
      (k0_pay43 (k0_pay37 x) (k0_pay39 x) (k0_pay40 x) k0_pay41) k0_pay44
      (ix4 (0 : Fin 1) (0 : Fin 1) (0 : Fin 1) d) = kscale (cmax x d * c448) := by
  unfold k0_pay48
  rw [← scale_v']
  generalize k0_pay46 (F := Ideal) _ _ _ _ _ = y
  pointwise

end Cert.KernelIdeal.Blk
-- ==== Proof.Bound.lean ====
module

public import proofs.«01_k».proof.Proof.Quant
public import proofs.«01_k».proof.Pre_finite
public import proofs.«01_k».proof.Proof.Gen.Pre_finite

@[expose] public section

/-! Finite inputs: every maximum, scale and code is a real number, and the kernel's are the reference's. -/

noncomputable section

namespace Cert.Scale

open Idealize.ShloMosaic

/-- `x` is a real number below 2^128 in absolute value. -/
def Fin' (x : EReal) : Prop := ∃ r : ℝ, x = (r : EReal) ∧ |r| < 2 ^ 128

theorem ninf : Ideal.ofBits .f32 0xFF800000#32 = ⊥ := by
  simp [Ideal.ofBits, Ideal.ieee]

/-- bfloat16's largest finite value. -/
theorem big_eq : Ideal.ofBits .bf16 0x7F7F#16 = (((255 : ℝ) * 2 ^ 120 : ℝ) : EReal) := by
  simp [Ideal.ofBits, Ideal.ieee, -EReal.coe_mul]

theorem fin_of_le (x : EReal) (h : max x (-x) ≤ Ideal.ofBits .bf16 0x7F7F#16) : Fin' x := by
  rw [big_eq] at h
  have h1 := le_trans (le_max_left _ _) h
  have h2 := le_trans (le_max_right _ _) h
  induction x with
  | bot => exact absurd h2 (by rw [EReal.neg_bot]; exact not_le.2 (EReal.coe_lt_top _))
  | top => exact absurd h1 (not_le.2 (EReal.coe_lt_top _))
  | coe r =>
    refine ⟨r, rfl, ?_⟩
    rw [← EReal.coe_neg] at h2
    have a1 : r ≤ 255 * 2 ^ 120 := by exact_mod_cast h1
    have a2 : -r ≤ 255 * 2 ^ 120 := by exact_mod_cast h2
    rw [abs_lt]
    constructor <;> norm_num at * <;> linarith

/-- The precondition of one argument, read at an element. -/
theorem fin_of_cmp (x : EReal) (h : Ideal.cmp .ole (max x (-x)) (Ideal.ofBits .bf16 0x7F7F#16) = 1#1) : Fin' x := by
  refine fin_of_le x ?_
  by_contra hc
  have : Ideal.cmp .ole (max x (-x)) (Ideal.ofBits .bf16 0x7F7F#16) = 0#1 := by
    unfold Ideal.cmp; dsimp only; rw [decide_eq_false hc]; rfl
  rw [this] at h
  exact absurd h (by decide)

theorem and1 : ∀ a b : BitVec 1, a &&& b = 1#1 → a = 1#1 ∧ b = 1#1 := by decide

/-- The precondition: every element of every argument is a real number below 2^128. -/
theorem pre_fin (a0 a1 a2 : FVec Ideal Cert.Pre_finite.S4x4096x8192 .bf16)
    (h : Cert.Pre_finite.fn (F := Ideal) a0 a1 a2 = fun _ => 1#1) (i : Cert.Pre_finite.S4x4096x8192.Idx) :
    Fin' (a0 i) ∧ Fin' (a1 i) ∧ Fin' (a2 i) := by
  have e := congrFun h i
  obtain ⟨e1, e2⟩ := and1 _ _ (show _ &&& _ = 1#1 from e)
  obtain ⟨e3, e4⟩ := and1 _ _ (show _ &&& _ = 1#1 from e1)
  exact ⟨fin_of_cmp _ e3, fin_of_cmp _ e4, fin_of_cmp _ e2⟩

/-- A maximum of absolute values of such numbers is one, and not negative. -/
theorem amax_real {n : ℕ} (hn : 0 < n) (f : Fin n → EReal) (hf : ∀ d, Fin' (f d)) :
    ∃ a : ℝ, amax f = (a : EReal) ∧ 0 ≤ a ∧ a < 2 ^ 128 := by
  choose r hr hb using hf
  have e : ∀ d, max (f d) (-(f d)) = ((|r d| : ℝ) : EReal) := fun d => by
    rw [hr, ← EReal.coe_neg, ← EReal.coe_strictMono.monotone.map_max]; rfl
  have bot : Ideal.ofBits .f32 0xFF800000#32 = ⊥ := ninf
  have lo : ((|r ⟨0, hn⟩| : ℝ) : EReal) ≤ amax f :=
    (Finset.le_fold_max _).2 (.inr ⟨⟨0, hn⟩, Finset.mem_univ _, (e _).ge⟩)
  have hi : amax f < ((2 ^ 128 : ℝ) : EReal) := by
    refine (Finset.fold_max_lt _).2 ⟨by rw [bot]; exact EReal.bot_lt_coe _, fun d _ => ?_⟩
    rw [e]; exact_mod_cast hb d
  have hb' : amax f ≠ ⊥ := fun h => by rw [h, le_bot_iff] at lo; exact EReal.coe_ne_bot _ lo
  have ht' : amax f ≠ ⊤ := fun h => by rw [h] at hi; exact absurd hi (by simp)
  have ea := EReal.coe_toReal ht' hb'
  refine ⟨(amax f).toReal, ea.symm, ?_, ?_⟩
  · rw [← ea] at lo
    exact le_trans (abs_nonneg _) (by exact_mod_cast lo)
  · rw [← ea] at hi
    exact_mod_cast hi

section

variable {n : ℕ} (hn : 0 < n) (f : Fin n → EReal) (hf : ∀ d, Fin' (f d))
include hn hf

theorem kscale_eq : kscale (amax f * c448) = rscale (amax f) := by
  obtain ⟨a, ha, h0, h1⟩ := amax_real hn f hf
  obtain ⟨E, e1, e2, -, -⟩ := scale_eq a h0 h1
  rw [ha, e1, e2]

theorem kscale_real : ∃ s : ℝ, kscale (amax f * c448) = (s : EReal) := by
  obtain ⟨a, ha, h0, h1⟩ := amax_real hn f hf
  obtain ⟨E, e1, -, -, -⟩ := scale_eq a h0 h1
  exact ⟨_, by rw [ha, e1]⟩

theorem code_eq (x : EReal) : code (amax f) x = clip (x * rinv (amax f)) := by
  obtain ⟨a, ha, h0, h1⟩ := amax_real hn f hf
  obtain ⟨E, -, -, e3, e4⟩ := scale_eq a h0 h1
  rw [code, ha, e3, e4]

theorem code_real (x : EReal) (hx : Fin' x) : ∃ s : ℝ, code (amax f) x = (s : EReal) := by
  obtain ⟨a, ha, h0, h1⟩ := amax_real hn f hf
  obtain ⟨E, -, -, e3, -⟩ := scale_eq a h0 h1
  obtain ⟨r, rfl, -⟩ := hx
  have p448 : Ideal.ofBits .f32 0x43E00000#32 = ((448 : ℝ) : EReal) := by
    simp [Ideal.ofBits, Ideal.ieee, -EReal.coe_mul]; norm_num
  have m448 : Ideal.ofBits .f32 0xC3E00000#32 = ((-448 : ℝ) : EReal) := by
    simp [Ideal.ofBits, Ideal.ieee, -EReal.coe_mul]; norm_num
  rw [code, ha, e3, ← EReal.coe_mul, clip, p448, m448, ← EReal.coe_strictMono.monotone.map_max,
    ← EReal.coe_strictMono.monotone.map_min]
  exact ⟨_, rfl⟩

end

end Cert.Scale
-- ==== Proof.Attn.lean ====
module

public import proofs.«01_k».proof.Proof.Scale

@[expose] public section

/-! One query row of attention: the kernel's softmax in powers of two over its window of keys and the first four
keys is the softmax in powers of e over all keys under the mask. -/

noncomputable section

namespace Cert.Attn

open Idealize.ShloMosaic

/-- The key `j` is visible to the query `q`: not later, and among the last 1500 or the first four. -/
def vis (q j : ℕ) : Prop := j ≤ q ∧ (q < j + 1500 ∨ j < 4)

instance (q j : ℕ) : Decidable (vis q j) := inferInstanceAs (Decidable (_ ∧ _))

/-- Key `j` of the window that starts at `k0`. -/
def win (k0 : ℕ) (hk : k0 + 1792 ≤ 4096) (j : Fin 1792) : Fin 4096 := ⟨k0 + j.val, by omega⟩
/-- Key `j` of the first 128. -/
def fst (j : Fin 128) : Fin 4096 := ⟨j.val, by omega⟩

/-- A sum over the visible keys is the window's part and the first keys' part. -/
theorem sum_split (q k0 : ℕ) (hk : k0 + 1792 ≤ 4096) (hpos : 0 < k0 → 4 ≤ k0) (hq : q < k0 + 1792)
    (hlo : 0 < k0 → k0 + 1500 ≤ q + 1) (G : Fin 4096 → EReal) (hG : ∀ j, ¬ vis q j.val → G j = 0) :
    (∑ j : Fin 1792, G (win k0 hk j)) + (∑ j : Fin 128, if j.val < 4 ∧ 0 < k0 then G (fst j) else 0) = ∑ j, G j := by
  have i1 : Function.Injective (win k0 hk) := fun a b h => by
    have := congrArg Fin.val h; simp only [win] at this; exact Fin.ext (by omega)
  have i2 : Function.Injective fst := fun a b h => by
    have := congrArg Fin.val h; simp only [fst] at this; exact Fin.ext (by omega)
  rw [← Finset.sum_filter, ← Finset.sum_image (s := Finset.univ) (g := win k0 hk) (f := G) (fun a _ b _ h => i1 h),
    ← Finset.sum_image (g := fst) (f := G) (fun a _ b _ h => i2 h), ← Finset.sum_union]
  · refine Finset.sum_subset (Finset.subset_univ _) fun x _ hx => hG x fun hv => hx ?_
    rw [Finset.mem_union, Finset.mem_image, Finset.mem_image]
    have hx4 := x.isLt
    unfold vis at hv
    by_cases hw : k0 ≤ x.val
    · exact .inl ⟨⟨x.val - k0, by omega⟩, Finset.mem_univ _, Fin.ext (by simp only [win]; omega)⟩
    · exact .inr ⟨⟨x.val, by omega⟩, by simp only [Finset.mem_filter, Finset.mem_univ, true_and]; omega, Fin.ext rfl⟩
  · rw [Finset.disjoint_left]
    intro x h1 h2
    rw [Finset.mem_image] at h1 h2
    obtain ⟨a, -, rfl⟩ := h1
    obtain ⟨b, hb, h⟩ := h2
    have := congrArg Fin.val h
    simp only [Finset.mem_filter, Finset.mem_univ, true_and] at hb
    simp only [win, fst] at this
    omega

/-- The reference's masked score of key `j`. -/
def sc (q : ℕ) (S : Fin 4096 → ℝ) (j : Fin 4096) : EReal := if vis q j.val then ((S j : ℝ) : EReal) else ⊥
/-- The reference's row maximum. -/
def mx (q : ℕ) (S : Fin 4096 → ℝ) : EReal := Finset.univ.fold max ⊥ (sc q S)
/-- The reference's exponential of key `j`. -/
def pr (q : ℕ) (S : Fin 4096 → ℝ) (j : Fin 4096) : EReal := Ideal.exp (sc q S j - mx q S)

/-- The kernel's masked score of key `j` of the window, in powers of two. -/
def sc1 (q k0 : ℕ) (hk : k0 + 1792 ≤ 4096) (U : Fin 4096 → EReal) (j : Fin 1792) : EReal :=
  if vis q (k0 + j.val) then U (win k0 hk j) else ⊥
/-- The kernel's masked score of key `j` of the first 128, in powers of two. -/
def sc2 (q k0 : ℕ) (U : Fin 4096 → EReal) (j : Fin 128) : EReal :=
  if (vis q j.val ∧ j.val < 4) ∧ 0 < k0 then U (fst j) else ⊥
/-- The kernel's row maximum. -/
def mk (q k0 : ℕ) (hk : k0 + 1792 ≤ 4096) (U : Fin 4096 → EReal) : EReal :=
  max (Finset.univ.fold max ⊥ (sc1 q k0 hk U)) (Finset.univ.fold max ⊥ (sc2 q k0 U))

section Row

variable (q k0 : ℕ) (hk : k0 + 1792 ≤ 4096) (hpos : 0 < k0 → 4 ≤ k0) (hq : q < k0 + 1792)
  (hlo : 0 < k0 → k0 + 1500 ≤ q + 1) (S : Fin 4096 → ℝ) (U : Fin 4096 → EReal)
  (hU : ∀ j, U j = ((S j * (Real.log 2)⁻¹ : ℝ) : EReal))

theorem log2_pos : 0 < (Real.log 2)⁻¹ := inv_pos.2 (Real.log_pos (by norm_num))

/-- The row maximum is a real number: a query sees itself. -/
theorem mx_real (h4 : q < 4096) : ∃ M : ℝ, mx q S = (M : EReal) := by
  have hb : mx q S ≠ ⊥ := by
    intro h
    have h1 : sc q S ⟨q, h4⟩ ≤ mx q S :=
      (Finset.le_fold_max _).2 (.inr ⟨_, Finset.mem_univ _, le_rfl⟩)
    rw [h, le_bot_iff] at h1
    unfold sc at h1
    rw [if_pos (by unfold vis; dsimp only; omega)] at h1
    exact EReal.coe_ne_bot _ h1
  have ht : mx q S ≠ ⊤ := by
    intro h
    have h1 : (⊤ : EReal) ≤ mx q S := h ▸ le_rfl
    rcases (Finset.le_fold_max _).1 h1 with h2 | ⟨x, -, h2⟩
    · exact absurd h2 (by simp)
    · unfold sc at h2
      split at h2
      · exact absurd h2 (not_le.2 (EReal.coe_lt_top _))
      · exact absurd h2 (by simp)
  exact ⟨(mx q S).toReal, (EReal.coe_toReal ht hb).symm⟩

include hpos hq hlo hU in
/-- The kernel's maximum is the reference's, in powers of two. -/
theorem mk_eq (M : ℝ) (hM : mx q S = (M : EReal)) : mk q k0 hk U = ((M * (Real.log 2)⁻¹ : ℝ) : EReal) := by
  have key : ∀ x, vis q x.val → S x ≤ M := by
    intro x hx
    have h1 : sc q S x ≤ mx q S := (Finset.le_fold_max _).2 (.inr ⟨_, Finset.mem_univ _, le_rfl⟩)
    rw [hM] at h1
    unfold sc at h1
    rw [if_pos hx] at h1
    exact_mod_cast h1
  have up : ∀ x, vis q x.val → U x ≤ ((M * (Real.log 2)⁻¹ : ℝ) : EReal) := by
    intro x hx
    rw [hU]
    exact_mod_cast mul_le_mul_of_nonneg_right (key x hx) log2_pos.le
  apply le_antisymm
  · unfold mk
    refine max_le ?_ ?_
    · refine (Finset.fold_max_le _).2 ⟨bot_le, fun j _ => ?_⟩
      unfold sc1
      split
      · rename_i h; exact up _ h
      · exact bot_le
    · refine (Finset.fold_max_le _).2 ⟨bot_le, fun j _ => ?_⟩
      unfold sc2
      split
      · rename_i h; exact up _ h.1.1
      · exact bot_le
  · have h1 : (M : EReal) ≤ mx q S := hM ▸ le_rfl
    rcases (Finset.le_fold_max _).1 h1 with h2 | ⟨x, -, h2⟩
    · exact absurd h2 (by simp)
    · unfold sc at h2
      split at h2
      · rename_i hv
        have h3 : ((M * (Real.log 2)⁻¹ : ℝ) : EReal) ≤ U x := by
          rw [hU]
          exact_mod_cast mul_le_mul_of_nonneg_right (by exact_mod_cast h2) log2_pos.le
        have hx4 := x.isLt
        have hv' := hv
        unfold vis at hv'
        by_cases hw : k0 ≤ x.val
        · refine le_trans h3 (le_max_of_le_left ((Finset.le_fold_max _).2 (.inr ⟨⟨x.val - k0, by omega⟩, Finset.mem_univ _, ?_⟩)))
          have e : win k0 hk ⟨x.val - k0, by omega⟩ = x := Fin.ext (by simp only [win]; omega)
          unfold sc1
          rw [if_pos (by rw [show k0 + (x.val - k0) = x.val by omega]; exact hv), e]
        · refine le_trans h3 (le_max_of_le_right ((Finset.le_fold_max _).2 (.inr ⟨⟨x.val, by omega⟩, Finset.mem_univ _, ?_⟩)))
          unfold sc2
          rw [if_pos ⟨⟨hv, by dsimp only; omega⟩, by omega⟩]
          exact le_rfl
      · exact absurd h2 (by simp)

theorem exp2_eq_exp (s M : ℝ) :
    Ideal.exp2 (((s * (Real.log 2)⁻¹ : ℝ) : EReal) - ((M * (Real.log 2)⁻¹ : ℝ) : EReal)) = Ideal.exp ((s : EReal) - (M : EReal)) := by
  rw [← EReal.coe_sub, ← EReal.coe_sub]
  show ((Real.rpow 2 _ : ℝ) : EReal) = ((Real.exp _ : ℝ) : EReal)
  congr 1
  rw [Real.rpow_eq_pow, Real.rpow_def_of_pos (by norm_num)]
  congr 1
  have : Real.log 2 ≠ 0 := (Real.log_pos (by norm_num)).ne'
  field_simp

theorem pr_zero (M : ℝ) (hM : mx q S = (M : EReal)) (j : Fin 4096) (h : ¬ vis q j.val) : pr q S j = 0 := by
  unfold pr sc; rw [if_neg h, hM]; rfl

include hpos hq hlo hU in
/-- The window's exponentials. -/
theorem p1_eq (h4 : q < 4096) (j : Fin 1792) : Ideal.exp2 (sc1 q k0 hk U j - mk q k0 hk U) = pr q S (win k0 hk j) := by
  obtain ⟨M, hM⟩ := mx_real q S h4
  rw [mk_eq q k0 hk hpos hq hlo S U hU M hM]
  unfold sc1
  split
  · rename_i h
    unfold pr sc
    rw [if_pos (by exact h), hM, hU, exp2_eq_exp]
  · rename_i h
    rw [pr_zero q S M hM _ (by exact h)]; rfl

include hpos hq hlo hU in
/-- The first keys' exponentials. -/
theorem p2_eq (h4 : q < 4096) (j : Fin 128) :
    Ideal.exp2 (sc2 q k0 U j - mk q k0 hk U) = if j.val < 4 ∧ 0 < k0 then pr q S (fst j) else 0 := by
  obtain ⟨M, hM⟩ := mx_real q S h4
  rw [mk_eq q k0 hk hpos hq hlo S U hU M hM]
  unfold sc2
  by_cases h : j.val < 4 ∧ 0 < k0
  · rw [if_pos h]
    by_cases hv : vis q j.val
    · rw [if_pos ⟨⟨hv, h.1⟩, h.2⟩]
      unfold pr sc
      rw [if_pos (by exact hv), hM, hU, exp2_eq_exp]
    · rw [if_neg (fun h' => hv h'.1.1), pr_zero q S M hM _ (by exact hv)]; rfl
  · rw [if_neg h, if_neg (fun h' => h ⟨h'.1.2, h'.2⟩)]; rfl

include hpos hq hlo hU in
/-- A weighted sum of the exponentials, of weights that vanish at 0, is the sum over all keys. -/
theorem sum_eq (h4 : q < 4096) (g : Fin 4096 → EReal → EReal) (hg : ∀ j, g j 0 = 0) :
    (∑ j : Fin 1792, g (win k0 hk j) (Ideal.exp2 (sc1 q k0 hk U j - mk q k0 hk U)))
      + (∑ j : Fin 128, g (fst j) (Ideal.exp2 (sc2 q k0 U j - mk q k0 hk U))) = ∑ j, g j (pr q S j) := by
  obtain ⟨M, hM⟩ := mx_real q S h4
  rw [← sum_split q k0 hk hpos hq hlo (fun j => g j (pr q S j)) (fun j h => by rw [pr_zero q S M hM j h, hg])]
  congr 1
  · refine Finset.sum_congr rfl fun j _ => ?_
    rw [p1_eq q k0 hk hpos hq hlo S U hU h4]
  · refine Finset.sum_congr rfl fun j _ => ?_
    rw [p2_eq q k0 hk hpos hq hlo S U hU h4]
    split
    · rfl
    · rw [hg]

end Row

end Cert.Attn
-- ==== Proof.Win.lean ====
module

public import proofs.«01_k».proof.Proof.Trip
public import proofs.«01_k».proof.Proof.Pay
public import proofs.«01_k».proof.Proof.Open
public import proofs.«01_k».proof.Proof.Bound
public import proofs.«01_k».proof.Proof.Attn
public import Idealize.ShloMosaic.Lib.Pipeline.ValueKit.Tiles

@[expose] public section

set_option maxRecDepth 16384

/-! One trip of the loop, read at a row: the trip's window and mask as numbers, and the row it stores. -/

noncomputable section

namespace Cert.KernelIdeal.Blk

open Cert.KernelIdeal Cert.KernelIdeal.Gen Idealize.ShloMosaic Cert.Scale Cert.Attn

theorem trips_eq : k0_t1_loop.trips = 16 := by decide +kernel

/-- The trip's first window key. -/
def kst (k : Fin k0_t1_loop.trips) : ℕ := 256 * k.val - 1536

theorem off2_eq : ∀ k : Fin k0_t1_loop.trips, k0_off2 k = ![0, kst k, 0] := by decide +kernel
theorem off3_eq : ∀ k : Fin k0_t1_loop.trips, k0_off3 k = ![0, 0, 0, kst k] := by decide +kernel
theorem q0w_eq : ∀ k : Fin k0_t1_loop.trips, q0w k = BitVec.ofNat 32 (256 * k.val) := by decide +kernel
theorem k0w_eq : ∀ k : Fin k0_t1_loop.trips, k0w k = BitVec.ofNat 32 (kst k) := by decide +kernel

theorem kst_le (k : Fin k0_t1_loop.trips) : kst k + 1792 ≤ 4096 := by
  have := k.isLt; have := trips_eq; unfold kst; omega

/-- Query `r` of the trip. -/
def qrow (k : Fin k0_t1_loop.trips) (r : Fin 256) : Fin 4096 :=
  ⟨256 * k.val + r.val, by have := k.isLt; have := trips_eq; omega⟩

/-- The signed value of a small word. -/
theorem toInt_small (n : ℕ) (h : n < 4096) : (BitVec.ofNat 32 n).toInt = n := by
  rw [BitVec.toInt_eq_toNat_cond, BitVec.toNat_ofNat]
  omega

theorem toInt_sub1500 (n : ℕ) (h : n < 4096) : (BitVec.ofNat 32 n - 1500#32).toInt = (n : ℤ) - 1500 := by
  rw [BitVec.toInt_eq_toNat_cond, BitVec.toNat_sub, BitVec.toNat_ofNat, BitVec.toNat_ofNat]
  split <;> omega

/-- The mask's word is the mask. -/
theorem maskw_eq (a b : ℕ) (ha : a < 4096) (hb : b < 4096) :
    maskw (BitVec.ofNat 32 a) (BitVec.ofNat 32 b) = if vis b a then 1#1 else 0#1 := by
  have h4 : (4#32 : BitVec 32).toInt = 4 := by decide
  have e1 : (BitVec.ofNat 32 a).sle (BitVec.ofNat 32 b) = decide (a ≤ b) := by
    rw [BitVec.sle, toInt_small a ha, toInt_small b hb]; simp
  have e2 : (BitVec.ofNat 32 b - 1500#32).slt (BitVec.ofNat 32 a) = decide (b < a + 1500) := by
    rw [BitVec.slt, toInt_sub1500 b hb, toInt_small a ha]; exact decide_eq_decide.2 (by omega)
  have e3 : (BitVec.ofNat 32 a).slt 4#32 = decide (a < 4) := by
    rw [BitVec.slt, toInt_small a ha, h4]; exact decide_eq_decide.2 (by omega)
  unfold maskw IntOp.andi IntOp.ori IntOp.cmpi IntOp.subi
  dsimp only
  rw [e1, e2, e3]
  by_cases h1 : a ≤ b <;> by_cases h2 : b < a + 1500 <;> by_cases h3 : a < 4 <;> simp [vis, h1, h2, h3]

theorem lt4_eq (a : ℕ) (ha : a < 4096) : IntOp.cmpi .slt (BitVec.ofNat 32 a) 4#32 = if a < 4 then 1#1 else 0#1 := by
  have h4 : (4#32 : BitVec 32).toInt = 4 := by decide
  have e3 : (BitVec.ofNat 32 a).slt 4#32 = decide (a < 4) := by
    rw [BitVec.slt, toInt_small a ha, h4]; exact decide_eq_decide.2 (by omega)
  unfold IntOp.cmpi
  dsimp only
  rw [e3]
  by_cases h : a < 4 <;> simp [h]

theorem gt0_eq (a : ℕ) (ha : a < 4096) : Scalar.cmpi .sgt (BitVec.ofNat 32 a) 0#32 = if 0 < a then 1#1 else 0#1 := by
  have h4 : (0#32 : BitVec 32).toInt = 0 := by decide
  have e3 : (0#32 : BitVec 32).slt (BitVec.ofNat 32 a) = decide (0 < a) := by
    rw [BitVec.slt, toInt_small a ha, h4]; exact decide_eq_decide.2 (by omega)
  unfold Scalar.cmpi IntOp.cmpi
  dsimp only
  rw [e3]
  by_cases h : 0 < a <;> simp [h]

/-- A selection by a word that is a condition. -/
theorem select_if (c : Prop) [Decidable c] (w : BitVec 1) (x y : EReal) (h : w = if c then 1#1 else 0#1) :
    Scalar.select w x y = if c then x else y := by
  subst h
  unfold Scalar.select
  by_cases hc : c <;> simp [hc]

section

variable (k : Fin k0_t1_loop.trips)

theorem qx_apply (B : Vec Ideal S1x4096x128 .bf16) (r : Fin 256) (d : Fin 128) :
    qx k B (ix3 (0 : Fin 1) r d) = B (ix3 (0 : Fin 1) (qrow k r) d) := by
  unfold qx
  refine View.ld_unit_apply_of _ _ _ _ _ _ fun a => ?_
  match a with
  | ⟨0, _⟩ => show (0 : ℕ) = k0_off1 k 0 + 0; rw [k0_off1_eq]; rfl
  | ⟨1, _⟩ => show 256 * k.val + r.val = k0_off1 k 1 + r.val; rw [k0_off1_eq]; rfl
  | ⟨2, _⟩ => show d.val = k0_off1 k 2 + d.val; rw [k0_off1_eq]; show d.val = 0 + d.val; omega

omit k in
theorem sc_apply (X : Vec Ideal S1x256x128 .fp8e4m3) (r : Fin 256) (d : Fin 128) :
    shapeCast S256x128 X shapeCasts_S1x256x128_S256x128 (ix2 r d) = X (ix3 (0 : Fin 1) r d) := by
  pointwise

theorem qr_apply (B : Vec Ideal S1x4096x128 .fp8e4m3) (r : Fin 256) (d : Fin 128) :
    qr k B (ix2 r d) = B (ix3 (0 : Fin 1) (qrow k r) d) := by
  unfold qr
  rw [sc_apply]
  refine View.ld_unit_apply_of _ _ _ _ _ _ fun a => ?_
  match a with
  | ⟨0, _⟩ => show (0 : ℕ) = k0_off1 k 0 + 0; rw [k0_off1_eq]; rfl
  | ⟨1, _⟩ => show 256 * k.val + r.val = k0_off1 k 1 + r.val; rw [k0_off1_eq]; rfl
  | ⟨2, _⟩ => show d.val = k0_off1 k 2 + d.val; rw [k0_off1_eq]; show d.val = 0 + d.val; omega

theorem kw_apply (B : Vec Ideal S1x4096x128 .fp8e4m3) (j : Fin 1792) (d : Fin 128) :
    kw k B (ix3 (0 : Fin 1) j d) = B (ix3 (0 : Fin 1) (win (kst k) (kst_le k) j) d) := by
  unfold kw
  refine View.ld_unit_apply_of _ _ _ _ _ _ fun a => ?_
  match a with
  | ⟨0, _⟩ => show (0 : ℕ) = k0_off2 k 0 + 0; rw [off2_eq]; rfl
  | ⟨1, _⟩ => show kst k + j.val = k0_off2 k 1 + j.val; rw [off2_eq]; rfl
  | ⟨2, _⟩ => show d.val = k0_off2 k 2 + d.val; rw [off2_eq]; show d.val = 0 + d.val; omega

theorem ksw_apply (B : Vec Ideal S1x1x1x4096 .f32) (j : Fin 1792) :
    ksw k B (ix4 (0 : Fin 1) (0 : Fin 1) (0 : Fin 1) j) = B (ix4 (0 : Fin 1) (0 : Fin 1) (0 : Fin 1) (win (kst k) (kst_le k) j)) := by
  unfold ksw
  refine View.ld_unit_apply_of _ _ _ _ _ _ fun a => ?_
  match a with
  | ⟨0, _⟩ => show (0 : ℕ) = k0_off3 k 0 + 0; rw [off3_eq]; rfl
  | ⟨1, _⟩ => show (0 : ℕ) = k0_off3 k 1 + 0; rw [off3_eq]; rfl
  | ⟨2, _⟩ => show (0 : ℕ) = k0_off3 k 2 + 0; rw [off3_eq]; rfl
  | ⟨3, _⟩ => show kst k + j.val = k0_off3 k 3 + j.val; rw [off3_eq]; rfl

theorem kf_apply (B : Vec Ideal S1x4096x128 .fp8e4m3) (j : Fin 128) (d : Fin 128) :
    kf B (ix3 (0 : Fin 1) j d) = B (ix3 (0 : Fin 1) (fst j) d) := by
  unfold kf
  refine View.ld_unit_apply_of _ _ _ _ _ _ fun a => ?_
  match a with
  | ⟨0, _⟩ => rfl
  | ⟨1, _⟩ => show j.val = 0 + j.val; omega
  | ⟨2, _⟩ => show d.val = 0 + d.val; omega

theorem ksf_apply (B : Vec Ideal S1x1x1x4096 .f32) (j : Fin 128) :
    ksf B (ix4 (0 : Fin 1) (0 : Fin 1) (0 : Fin 1) j) = B (ix4 (0 : Fin 1) (0 : Fin 1) (0 : Fin 1) (fst j)) := by
  unfold ksf
  refine View.ld_unit_apply_of _ _ _ _ _ _ fun a => ?_
  match a with
  | ⟨0, _⟩ => rfl
  | ⟨1, _⟩ => rfl
  | ⟨2, _⟩ => rfl
  | ⟨3, _⟩ => show j.val = 0 + j.val; omega

theorem pay3_apply (x : Vec Ideal S1x256x128 .bf16) (r : Fin 256) :
    k0_pay3 x (ix2 r (0 : Fin 1)) = (amax fun d : Fin 128 => x (ix3 (0 : Fin 1) r d)) * c448 := by
  unfold k0_pay3
  pointwise
  rfl

theorem scr_apply (x : Vec Ideal S1x4096x128 .bf16) (r : Fin 256) :
    scr k x (ix2 r (0 : Fin 1)) = kscale (rmax x (qrow k r) * c448) := by
  unfold scr
  rw [scale_loop]
  dsimp only
  rw [pay3_apply]
  simp only [qx_apply]
  rfl

variable (x0 x1 x2 : Vec Ideal S1x4096x128 .bf16)

/-- The score of query `s` and key `j`, in powers of two. -/
def usc (s j : Fin 4096) : EReal :=
  (∑ x : Fin 128, cq x0 (ix3 (0 : Fin 1) s x) * ck x1 (ix3 (0 : Fin 1) j x)) *
    (kscale (rmax x0 s * c448) * sk x1 (ix4 (0 : Fin 1) (0 : Fin 1) (0 : Fin 1) j) * (Named.named (F := Ideal) (φ := .f32) κ "sm_log2e" 0x3E0293EE#32 : EReal))

theorem s1r_apply (r : Fin 256) (j : Fin 1792) :
    s1r k x0 (cq x0) (ck x1) (sk x1) (ix2 r j) = sc1 (qrow k r).val (kst k) (kst_le k) (usc x0 x1 (qrow k r)) j := by
  unfold s1r
  rw [pay10_apply _ _ _ (scr k x0) _ _ _ _ _ _ rfl]
  simp only [qr_apply, kw_apply, ksw_apply, scr_apply]
  rw [q0w_eq, k0w_eq, IntOp.addi, IntOp.addi, ← BitVec.ofNat_add, ← BitVec.ofNat_add, ninf]
  refine select_if _ _ _ _ (maskw_eq _ _ ?_ (qrow k r).isLt)
  have := kst_le k; omega

theorem p11_apply (r : Fin 256) (j : Fin 128) :
    k0_pay11 (q0w k) (k0w k) (qr k (cq x0)) (scr k x0) (kf (ck x1)) (ksf (sk x1)) (ix2 r j)
      = sc2 (qrow k r).val (kst k) (usc x0 x1 (qrow k r)) j := by
  rw [pay11_apply]
  simp only [qr_apply, kf_apply, ksf_apply, scr_apply]
  rw [q0w_eq, k0w_eq, IntOp.addi, ← BitVec.ofNat_add, ninf]
  refine select_if _ _ _ _ ?_
  rw [lt4_eq j.val (by omega), gt0_eq (kst k) (by have := kst_le k; omega),
    show 256 * k.val + r.val = (qrow k r).val from rfl, maskw_eq _ _ (by omega) (qrow k r).isLt]
  unfold IntOp.andi
  by_cases h1 : vis (qrow k r).val j.val <;> by_cases h2 : j.val < 4 <;> by_cases h3 : 0 < kst k <;> simp [h1, h2, h3]

theorem p12_apply (r : Fin 256) :
    k0_pay12 (q0w k) (k0w k) (qr k (cq x0)) (scr k x0) (s1r k x0 (cq x0) (ck x1) (sk x1)) (kf (ck x1)) (ksf (sk x1)) (ix2 r (0 : Fin 1))
      = mk (qrow k r).val (kst k) (kst_le k) (usc x0 x1 (qrow k r)) := by
  rw [pay12_apply]
  simp only [s1r_apply, p11_apply, ninf]
  rfl

/-- The row a trip stores. -/
theorem trW_apply (r : Fin 256) (d : Fin 128) :
    trW k x0 (cq x0) (ck x1) (cv x2) (sk x1) (svl x2) (ix3 (0 : Fin 1) r d)
      = Ideal.div (((∑ j : Fin 1792, pcode (Ideal.exp2 (sc1 (qrow k r).val (kst k) (kst_le k) (usc x0 x1 (qrow k r)) j
                - mk (qrow k r).val (kst k) (kst_le k) (usc x0 x1 (qrow k r)))) * cv x2 (ix3 (0 : Fin 1) (win (kst k) (kst_le k) j) d))
            + ∑ j : Fin 128, pcode (Ideal.exp2 (sc2 (qrow k r).val (kst k) (usc x0 x1 (qrow k r)) j
                - mk (qrow k r).val (kst k) (kst_le k) (usc x0 x1 (qrow k r)))) * cv x2 (ix3 (0 : Fin 1) (fst j) d))
            * svl x2 (ix2 (0 : Fin 1) d) * Ideal.ofBits .f32 0x3B800000#32)
          ((∑ j : Fin 1792, Ideal.exp2 (sc1 (qrow k r).val (kst k) (kst_le k) (usc x0 x1 (qrow k r)) j
                - mk (qrow k r).val (kst k) (kst_le k) (usc x0 x1 (qrow k r))))
            + ∑ j : Fin 128, Ideal.exp2 (sc2 (qrow k r).val (kst k) (usc x0 x1 (qrow k r)) j
                - mk (qrow k r).val (kst k) (kst_le k) (usc x0 x1 (qrow k r)))) := by
  unfold trW
  rw [pay1_apply]
  simp only [pay13_apply, pay14_apply, pay15_apply, s1r_apply, p11_apply, p12_apply, kw_apply, kf_apply]

theorem pcode_zero : pcode 0 = 0 := by
  have h : (0 : EReal) ≤ Ideal.ofBits .f32 0x43E00000#32 := by
    have : Ideal.ofBits .f32 0x43E00000#32 = ((448 : ℝ) : EReal) := by
      simp [Ideal.ofBits, Ideal.ieee, -EReal.coe_mul]; norm_num
    rw [this]; exact_mod_cast (by norm_num : (0 : ℝ) ≤ 448)
  unfold pcode
  rw [zero_mul, max_self, min_eq_right h]

/-- The row a trip stores is the softmax row over all keys. -/
theorem trW_row (r : Fin 256) (d : Fin 128) (S : Fin 4096 → ℝ)
    (hU : ∀ j, usc x0 x1 (qrow k r) j = ((S j * (Real.log 2)⁻¹ : ℝ) : EReal)) :
    trW k x0 (cq x0) (ck x1) (cv x2) (sk x1) (svl x2) (ix3 (0 : Fin 1) r d)
      = Ideal.div ((∑ j : Fin 4096, pcode (pr (qrow k r).val S j) * cv x2 (ix3 (0 : Fin 1) j d))
            * svl x2 (ix2 (0 : Fin 1) d) * Ideal.ofBits .f32 0x3B800000#32)
          (∑ j : Fin 4096, pr (qrow k r).val S j) := by
  have hk := k.isLt
  have ht := trips_eq
  have h1 : 0 < kst k → 4 ≤ kst k := by unfold kst; omega
  have h2 : (qrow k r).val < kst k + 1792 := by unfold kst qrow; dsimp only; omega
  have h3 : 0 < kst k → kst k + 1500 ≤ (qrow k r).val + 1 := by unfold kst qrow; dsimp only; omega
  rw [trW_apply,
    sum_eq (qrow k r).val (kst k) (kst_le k) h1 h2 h3 S _ hU (qrow k r).isLt (fun j p => pcode p * cv x2 (ix3 (0 : Fin 1) j d))
      (fun j => by rw [pcode_zero, zero_mul]),
    sum_eq (qrow k r).val (kst k) (kst_le k) h1 h2 h3 S _ hU (qrow k r).isLt (fun _ p => p) (fun _ => rfl)]

end

end Cert.KernelIdeal.Blk
-- ==== Proof.Out3.lean ====
module

public import proofs.«01_k».proof.Proof.Trip
public import proofs.«01_k».proof.Proof.Pay
public import proofs.«01_k».proof.Proof.Open

@[expose] public section

set_option maxRecDepth 16384

/-! What the loop leaves in the result window: at each row the store of the row's trip. -/

noncomputable section

namespace Cert.KernelIdeal.Blk

open Cert.KernelIdeal Cert.KernelIdeal.Gen Idealize.ShloMosaic Idealize.ShloMosaic.TcCoe Idealize.SL.Sem

variable {F : FTy → Type} [FloatOps F] [Named F]

theorem trips16 : k0_t1_loop.trips = 16 := by decide +kernel

/-- The trip of a row of the block. -/
def tripOf (y : S1x4096x128.Idx) : Fin k0_t1_loop.trips :=
  ⟨(y 1).val / 256, by have h : (y 1).val < 4096 := (y 1).isLt; rw [trips16]; omega⟩

/-- The result block: each row is the store of its trip. -/
def oW (x0 x1 x2 : Vec F S1x4096x128 .bf16) : Vec F S1x4096x128 .bf16 := fun y =>
  trW (tripOf y) x0 (cq x0) (ck x1) (cv x2) (sk x1) (svl x2)
    (ix3 (0 : Fin 1) (⟨(y 1).val % 256, Nat.mod_lt _ (by decide)⟩ : Fin 256) (⟨(y 2).val, (y 2).isLt⟩ : Fin 128))

/-- A trip's store is the result block's rows. -/
theorem piece_oW (k : Fin k0_t1_loop.trips) (x0 x1 x2 : Vec F S1x4096x128 .bf16) (x : S1x256x128.Idx) :
    trW k x0 (cq x0) (ck x1) (cv x2) (sk x1) (svl x2) x
      = oW x0 x1 x2 ((Rect.unit (s := S1x4096x128) (k0_off1 k) S1x256x128.size (k0_off1_inb k)).emb x) := by
  have hk : k.val < 16 := trips16 ▸ k.isLt
  have v1 : (((Rect.unit (s := S1x4096x128) (k0_off1 k) S1x256x128.size (k0_off1_inb k)).emb x) 1).val = 256 * k.val + (x 1).val := by
    show k0_off1 k 1 + 1 * (x 1).val = _
    rw [k0_off1_eq]; show 256 * k.val + 1 * (x 1).val = _; omega
  have v2 : (((Rect.unit (s := S1x4096x128) (k0_off1 k) S1x256x128.size (k0_off1_inb k)).emb x) 2).val = (x 2).val := by
    show k0_off1 k 2 + 1 * (x 2).val = _
    rw [k0_off1_eq]; show 0 + 1 * (x 2).val = _; omega
  have h1 : (x 1).val < 256 := (x 1).isLt
  have h0 : (x 0).val < 1 := (x 0).isLt
  generalize (Rect.unit (s := S1x4096x128) (k0_off1 k) S1x256x128.size (k0_off1_inb k)).emb x = y at v1 v2
  have e : tripOf y = k := Fin.ext (by show (y 1).val / 256 = _; omega)
  unfold oW
  rw [e]
  congr 1
  funext a
  apply Fin.ext
  match a with
  | ⟨0, _⟩ => show (x 0).val = 0; omega
  | ⟨1, _⟩ => show (x 1).val = (y 1).val % 256; omega
  | ⟨2, _⟩ => show (x 2).val = (y 2).val; omega

variable (c : Dev nD) (i : grid0.Coords) (a2 : Memref sig .tc .vmem S1x4096x128 .bf16) (h2 : a2.IsWhole) (a3 : Memref sig .tc .vmem S1x4096x128 .bf16) (h3 : a3.IsWhole) (a4 : Memref sig .tc .vmem S1x4096x128 .bf16) (h4 : a4.IsWhole) (a5 : Memref sig .tc .vmem S1x4096x128 .bf16) (h5 : a5.IsWhole) (a6 : Memref sig .tc .vmem S1x4096x128 .fp8e4m3) (h6 : a6.IsWhole) (a7 : Memref sig .tc .vmem S1x1x1x4096 .f32) (h7 : a7.IsWhole) (a8 : Memref sig .tc .vmem S1x4096x128 .fp8e4m3) (h8 : a8.IsWhole) (a9 : Memref sig .tc .vmem S1x1x1x4096 .f32) (h9 : a9.IsWhole) (a10 : Memref sig .tc .vmem S1x4096x128 .fp8e4m3) (h10 : a10.IsWhole) (a11 : Memref sig .tc .vmem S1x1x1x128 .f32) (h11 : a11.IsWhole)
  (x0 x1 x2 : Vec F S1x4096x128 .bf16)

include i a2 h2 a3 h3 a4 h4 a5 h5 a6 h6 a7 h7 a8 h8 a9 h9 a10 h10 a11 h11 x0 x1 x2 in
theorem rd6 : a6.view.read (Elt F) (a6.view.writes (Elt F) a6.view.junk (kernelRun0_A.sl.H4_1 c a2 h2 x0)) = cq x0 := by
  have h := out4 c i a2 h2 a3 h3 a4 h4 a5 h5 a6 h6 a7 h7 a8 h8 a9 h9 a10 h10 a11 h11 x0 x1 x2
  have cov := cover0_A_4 c i a2 h2 a3 h3 a4 h4 a5 h5 a6 h6 a7 h7 a8 h8 a9 h9 a10 h10 a11 h11 x0 x1 x2
  unfold out0_A_4 at h
  unfold kernelRun0_A at h cov
  dsimp only at h cov
  rw [View.read_writes_eq_canon _ _ _ cov] at h
  rw [View.read_writes_eq_canon _ _ _ cov]
  exact h

include i a2 h2 a3 h3 a4 h4 a5 h5 a6 h6 a7 h7 a8 h8 a9 h9 a10 h10 a11 h11 x0 x1 x2 in
theorem rd8 : a8.view.read (Elt F) (a8.view.writes (Elt F) a8.view.junk (kernelRun0_A.sl.H6_1 c a3 h3 x1)) = ck x1 := by
  have h := out6 c i a2 h2 a3 h3 a4 h4 a5 h5 a6 h6 a7 h7 a8 h8 a9 h9 a10 h10 a11 h11 x0 x1 x2
  have cov := cover0_A_6 c i a2 h2 a3 h3 a4 h4 a5 h5 a6 h6 a7 h7 a8 h8 a9 h9 a10 h10 a11 h11 x0 x1 x2
  unfold out0_A_6 at h
  unfold kernelRun0_A at h cov
  dsimp only at h cov
  rw [View.read_writes_eq_canon _ _ _ cov] at h
  rw [View.read_writes_eq_canon _ _ _ cov]
  exact h

include i a2 h2 a3 h3 a4 h4 a5 h5 a6 h6 a7 h7 a8 h8 a9 h9 a10 h10 a11 h11 x0 x1 x2 in
theorem rd10 : a10.view.read (Elt F) (a10.view.writes (Elt F) a10.view.junk (kernelRun0_A.sl.H8_1 c a4 h4 x2)) = cv x2 := by
  have h := out8 c i a2 h2 a3 h3 a4 h4 a5 h5 a6 h6 a7 h7 a8 h8 a9 h9 a10 h10 a11 h11 x0 x1 x2
  have cov := cover0_A_8 c i a2 h2 a3 h3 a4 h4 a5 h5 a6 h6 a7 h7 a8 h8 a9 h9 a10 h10 a11 h11 x0 x1 x2
  unfold out0_A_8 at h
  unfold kernelRun0_A at h cov
  dsimp only at h cov
  rw [View.read_writes_eq_canon _ _ _ cov] at h
  rw [View.read_writes_eq_canon _ _ _ cov]
  exact h

include i a2 h2 a3 h3 a4 h4 a5 h5 a6 h6 a7 h7 a8 h8 a9 h9 a10 h10 a11 h11 x0 x1 x2 in
theorem rd9 : a9.view.read (Elt F) (a9.view.writes (Elt F) a9.view.junk (kernelRun0_A.sl.H7_1 c a3 h3 x1)) = sk x1 := by
  have h := out7 c i a2 h2 a3 h3 a4 h4 a5 h5 a6 h6 a7 h7 a8 h8 a9 h9 a10 h10 a11 h11 x0 x1 x2
  have cov := cover0_A_7 c i a2 h2 a3 h3 a4 h4 a5 h5 a6 h6 a7 h7 a8 h8 a9 h9 a10 h10 a11 h11 x0 x1 x2
  unfold out0_A_7 at h
  unfold kernelRun0_A at h cov
  dsimp only at h cov
  rw [View.read_writes_eq_canon _ _ _ cov] at h
  rw [View.read_writes_eq_canon _ _ _ cov]
  exact h

theorem out3 : out0_A_3 c i a2 h2 a3 h3 a4 h4 a5 h5 a6 h6 a7 h7 a8 h8 a9 h9 a10 h10 a11 h11 x0 x1 x2 = oW x0 x1 x2 := by
  have cov := cover0_A_3 c i a2 h2 a3 h3 a4 h4 a5 h5 a6 h6 a7 h7 a8 h8 a9 h9 a10 h10 a11 h11 x0 x1 x2
  unfold out0_A_3
  rw [View.read_writes_eq_canon _ _ _ cov]
  funext y
  refine View.canon_apply_of_pieces _ _ ?_ y (cov y)
  intro p hp
  clear cov
  unfold kernelRun0_A at hp
  dsimp only at hp
  obtain ⟨k, rfl⟩ := pb_eq c i a2 h2 a3 h3 a4 h4 a5 h5 a6 h6 a7 h7 a8 h8 a9 h9 a10 h10 a11 h11 _ _ _ _ _ _ _ le_rfl p hp
  intro x
  dsimp only
  rw [h2.read_unread, r19, rd6 c i a2 h2 a3 h3 a4 h4 a5 h5 a6 h6 a7 h7 a8 h8 a9 h9 a10 h10 a11 h11 x0 x1 x2, rd8 c i a2 h2 a3 h3 a4 h4 a5 h5 a6 h6 a7 h7 a8 h8 a9 h9 a10 h10 a11 h11 x0 x1 x2, rd10 c i a2 h2 a3 h3 a4 h4 a5 h5 a6 h6 a7 h7 a8 h8 a9 h9 a10 h10 a11 h11 x0 x1 x2, rd9 c i a2 h2 a3 h3 a4 h4 a5 h5 a6 h6 a7 h7 a8 h8 a9 h9 a10 h10 a11 h11 x0 x1 x2]
  exact piece_oW k x0 x1 x2 x

end Cert.KernelIdeal.Blk
-- ==== Proof.Ref.lean ====
module

public import proofs.«01_k».proof.Proof.Gen.ReferenceIdeal.Skeleton
public import proofs.«01_k».proof.Proof.Quant
public import Idealize.ShloMosaic.PureOps.Ideal.Laws
public import Idealize.ShloMosaic.Lib.Pointwise
public import Idealize.ShloMosaic.Lib.ValueIdx

@[expose] public section

set_option maxRecDepth 16384

/-! The reference's values, read at an index. -/

noncomputable section

namespace Cert.ReferenceIdeal.Row

open Cert.ReferenceIdeal Cert.ReferenceIdeal.Gen Idealize.ShloMosaic Cert.Scale

/-- The column of feature `d` of head `h`. -/
def col (h : Fin 64) (d : Fin 128) : Fin 8192 := ⟨h.val * 128 + d.val, by omega⟩

section

variable (P : Vec Ideal S4x4096x8192 .bf16) (b : Fin 4) (s : Fin 4096) (h : Fin 64) (d : Fin 128)

/-- The largest absolute value of a token's row of a head. -/
def rm : EReal := amax fun x : Fin 128 => P (ix3 b s (col h x))
/-- The largest absolute value of a channel of a head. -/
def cm : EReal := amax fun x : Fin 4096 => P (ix3 b x (col h d))

theorem pay5_apply : k0_pay5 P (ix4 b s h d) = P (ix3 b s (col h d)) := by
  unfold k0_pay5
  pointwise
  rfl

theorem pay12_apply : k0_pay12 P (ix4 b s h d) = P (ix3 b s (col h d)) := pay5_apply P b s h d

theorem pay6_apply : k0_pay6 P (ix4 b s h (0 : Fin 1)) = rm P b s h := by
  unfold k0_pay6
  pointwise
  simp only [pay5_apply]
  rfl

theorem pay13_apply : k0_pay13 P (ix4 b (0 : Fin 1) h d) = cm P b h d := by
  unfold k0_pay13
  pointwise
  simp only [pay12_apply]
  rfl

/-- The exponent chain over a vector is the scalar exponent at each index. -/
theorem rexpV {t : Shape} (y : FVec Ideal t .f32) :
    select (cmpf .oeq y (broadcast t (Scalar.ofBits .f32 0x00000000#32))) (broadcast t (Scalar.ofBits .f32 0x00000000#32))
      (maximumf (addf (floor (divf (log (mulf y (broadcast t (Scalar.ofBits .f32 0x3B124925#32))))
        (log (broadcast t (Scalar.ofBits .f32 0x40000000#32))))) (broadcast t (Scalar.ofBits .f32 0x3F800000#32)))
        (broadcast t (Scalar.ofBits .f32 0xC2FC0000#32))) = fun i => rexp (y i) := by
  funext i
  simp only [select, cmpf, broadcast, maximumf, addf, floor, divf, log, mulf, Scalar.select, rexp]
  rfl

theorem pay2_eq : k0_pay2 P = fun i => rexp (k0_pay6 P i) := by
  unfold k0_pay2 k0_pay1 k0_pay6 k0_pay5
  dsimp only
  exact rexpV _
theorem pay9_eq : k0_pay9 (k0_pay6 P) (k0_pay7 P) k0_pay8 = fun i => rexp (k0_pay6 P i) := by
  unfold k0_pay9 k0_pay7 k0_pay8
  dsimp only
  exact rexpV _
theorem pay17_eq : k0_pay17 (k0_pay14 P) (k0_pay15 P) k0_pay16 = fun i => rexp (k0_pay13 P i) := by
  unfold k0_pay17 k0_pay14 k0_pay15 k0_pay16
  dsimp only
  exact rexpV _

theorem pay2_apply : k0_pay2 P (ix4 b s h (0 : Fin 1)) = rexp (rm P b s h) := by
  rw [pay2_eq]
  exact congrArg rexp (pay6_apply P b s h)
theorem pay9_apply : k0_pay9 (k0_pay6 P) (k0_pay7 P) k0_pay8 (ix4 b s h (0 : Fin 1)) = rexp (rm P b s h) := by
  rw [pay9_eq]
  exact congrArg rexp (pay6_apply P b s h)
theorem pay17_apply : k0_pay17 (k0_pay14 P) (k0_pay15 P) k0_pay16 (ix4 b (0 : Fin 1) h d) = rexp (cm P b h d) := by
  rw [pay17_eq]
  exact congrArg rexp (pay13_apply P b h d)

theorem exp2V {t : Shape} (e : FVec Ideal t .f32) (i : t.Idx) : exp2 e i = Ideal.exp2 (e i) := rfl

theorem scale_q : k0_pay4 P (ix4 b s h (0 : Fin 1)) = rscale (rm P b s h) := by
  rw [rscale, ← pay2_apply]
  exact exp2V _ _

theorem scale_k : k0_pay11 (k0_pay6 P) (k0_pay7 P) k0_pay8 (ix4 b s h (0 : Fin 1)) = rscale (rm P b s h) := by
  rw [rscale, ← pay9_apply]
  exact exp2V _ _

theorem scale_v : k0_pay19 (k0_pay14 P) (k0_pay15 P) k0_pay16 (ix4 b (0 : Fin 1) h d) = rscale (cm P b h d) := by
  rw [rscale, ← pay17_apply]
  exact exp2V _ _

theorem pay3_apply (x : FVec Ideal S4x4096x64x128 .f32) (e : FVec Ideal S4x4096x64x1 .f32) :
    truncf (F := Ideal) .fp8e4m3 (minimumf (broadcast S4x4096x64x128 (Scalar.ofBits .f32 0x43E00000#32)) (maximumf (broadcast S4x4096x64x128 (Scalar.ofBits .f32 0xC3E00000#32))
      (mulf x (broadcastTo S4x4096x64x128 (exp2 (subf (broadcast S4x4096x64x1 (Scalar.ofBits .f32 0x00000000#32)) e)) broadcasts_S4x4096x64x1_S4x4096x64x128))))
      bitsLt_fp8e4m3_f32 (ix4 b s h d) = clip (x (ix4 b s h d) * Ideal.exp2 (0 - e (ix4 b s h (0 : Fin 1)))) := by
  pointwise
  rfl

theorem pay18_apply (x : FVec Ideal S4x4096x64x128 .f32) (e : FVec Ideal S4x1x64x128 .f32) :
    truncf (F := Ideal) .fp8e4m3 (minimumf (broadcast S4x4096x64x128 (Scalar.ofBits .f32 0x43E00000#32)) (maximumf (broadcast S4x4096x64x128 (Scalar.ofBits .f32 0xC3E00000#32))
      (mulf x (broadcastTo S4x4096x64x128 (exp2 (subf (broadcast S4x1x64x128 (Scalar.ofBits .f32 0x00000000#32)) e)) broadcasts_S4x1x64x128_S4x4096x64x128))))
      bitsLt_fp8e4m3_f32 (ix4 b s h d) = clip (x (ix4 b s h d) * Ideal.exp2 (0 - e (ix4 b (0 : Fin 1) h d))) := by
  pointwise
  rfl

theorem rinv_eq (a : EReal) : rinv a = Ideal.exp2 (0 - rexp a) := by
  unfold rinv
  rw [Ideal.ofBits_zero_f32]

theorem codes_q : k0_pay3 P (ix4 b s h d) = clip (P (ix3 b s (col h d)) * rinv (rm P b s h)) := by
  rw [rinv_eq, ← pay2_apply, ← pay5_apply P b s h d]
  exact pay3_apply b s h d (k0_pay5 P) (k0_pay2 P)

theorem codes_k : k0_pay10 (k0_pay5 P) (k0_pay6 P) (k0_pay7 P) k0_pay8 (ix4 b s h d)
    = clip (P (ix3 b s (col h d)) * rinv (rm P b s h)) := by
  rw [rinv_eq, ← pay9_apply, ← pay5_apply P b s h d]
  exact pay3_apply b s h d (k0_pay5 P) (k0_pay9 (k0_pay6 P) (k0_pay7 P) k0_pay8)

theorem codes_v : k0_pay18 (k0_pay12 P) (k0_pay14 P) (k0_pay15 P) k0_pay16 (ix4 b s h d)
    = clip (P (ix3 b s (col h d)) * rinv (cm P b h d)) := by
  rw [rinv_eq, ← pay17_apply, ← pay12_apply P b s h d]
  exact pay18_apply b s h d (k0_pay12 P) (k0_pay17 (k0_pay14 P) (k0_pay15 P) k0_pay16)

end

theorem pay24_apply (y : FVec Ideal S4x4096x64x128 .fp8e4m3) (b : Fin 4) (s : Fin 4096) (h : Fin 64) (d : Fin 128) :
    k0_pay24 y (ix3 b s (col h d)) = y (ix4 b s h d) := by
  have e1 : (⟨(col h d).val / 128, by omega⟩ : Fin 64) = h := Fin.ext (by simp only [col]; omega)
  have e2 : (⟨(col h d).val % 128, by omega⟩ : Fin 128) = d := Fin.ext (by simp only [col]; omega)
  unfold k0_pay24
  pointwise
  rw [e1, e2]

theorem pay27_apply (y : FVec Ideal S4x4096x64x1 .f32) (b : Fin 4) (s : Fin 4096) (h : Fin 64) :
    k0_pay27 y (ix4 b h (0 : Fin 1) s) = y (ix4 b s h (0 : Fin 1)) := by
  unfold k0_pay27
  pointwise

theorem pay29_apply (y : FVec Ideal S4x1x64x128 .f32) (b : Fin 4) (h : Fin 64) (d : Fin 128) :
    k0_pay29 y (ix4 b h (0 : Fin 1) d) = y (ix4 b (0 : Fin 1) h d) := by
  unfold k0_pay29
  pointwise

section

variable (v30 : FVec Ideal S4x4096x64x128 .fp8e4m3) (v31 : FVec Ideal S4x4096x64x1 .f32)
  (v62 : FVec Ideal S4x4096x64x128 .fp8e4m3) (v63 : FVec Ideal S4x4096x64x1 .f32) (b : Fin 4) (h : Fin 64) (r : Fin 4096)

/-- The reference's mask and score of query `r` and key `j`. -/
def score (j : Fin 4096) : EReal :=
  Scalar.select
    (IntOp.andi (IntOp.cmpi .sle (BitVec.ofNat 32 j.val) (BitVec.ofNat 32 r.val))
      (IntOp.ori (IntOp.cmpi .sgt (BitVec.ofNat 32 j.val) (IntOp.subi (BitVec.ofNat 32 r.val) 1500#32))
        (IntOp.cmpi .slt (BitVec.ofNat 32 j.val) 4#32)))
    ((∑ x : Fin 128, v30 (ix4 b r h x) * v62 (ix4 b j h x)) *
      (v31 (ix4 b r h (0 : Fin 1)) * v63 (ix4 b j h (0 : Fin 1)) * (Named.named (F := Ideal) (φ := .f32) κ "sm_scale" 0x3DB504F3#32 : EReal)))
    (Ideal.ofBits .f32 0xFF800000#32)

theorem pay20_apply (j : Fin 4096) : k0_pay20 v30 v31 v62 v63 (ix4 b h r j)
    = Ideal.exp (score v30 v31 v62 v63 b h r j
      - Finset.univ.fold max (Ideal.ofBits .f32 0xFF800000#32) (score v30 v31 v62 v63 b h r)) := by
  unfold k0_pay20
  pointwise
  rfl

theorem pay21_apply : k0_pay21 v30 v31 v62 v63 (ix4 b h r (0 : Fin 1)) = ∑ x : Fin 4096, k0_pay20 v30 v31 v62 v63 (ix4 b h r x) := by
  unfold k0_pay21
  pointwise

theorem pay22_apply (j : Fin 4096) : k0_pay22 v30 v31 v62 v63 (ix4 b h r j)
    = min (Ideal.ofBits .f32 0x43E00000#32) (max 0 (k0_pay20 v30 v31 v62 v63 (ix4 b h r j) * Ideal.ofBits .f32 0x43800000#32)) := by
  unfold k0_pay22
  pointwise

end

theorem pay23_apply (v94 : FVec Ideal S4x4096x64x128 .fp8e4m3) (v95 : FVec Ideal S4x1x64x128 .f32) (v123 : FVec Ideal S4x64x4096x1 .f32)
    (v130 : FVec Ideal S4x64x4096x4096 .fp8e4m3) (b : Fin 4) (s : Fin 4096) (h : Fin 64) (d : Fin 128) :
    k0_pay23 v94 v95 v123 v130 (ix3 b s (col h d))
      = Ideal.div ((∑ x : Fin 4096, v94 (ix4 b x h d) * v130 (ix4 b h s x)) * v95 (ix4 b (0 : Fin 1) h d) * Ideal.ofBits .f32 0x3B800000#32)
          (v123 (ix4 b h s (0 : Fin 1))) := by
  have e1 : (⟨(col h d).val / 128, by omega⟩ : Fin 64) = h := Fin.ext (by simp only [col]; omega)
  have e2 : (⟨(col h d).val % 128, by omega⟩ : Fin 128) = d := Fin.ext (by simp only [col]; omega)
  unfold k0_pay23
  pointwise
  rw [e1, e2]

end Cert.ReferenceIdeal.Row
-- ==== Proof.RefRun.lean ====
/- The reference's run, read: it has one point and every window's block is its whole array, so each result array ends
   holding the payload of its one store over the argument arrays. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v0_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_2) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_3) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_4) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_5) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_6) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x4096x8192.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 4096 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S4x4096x8192.Idx) : ((cfg0.win 1).blk t).view.emb j = j := by
  obtain ⟨e0, e1, e2⟩ := idx_zero1 t
  funext a; apply Fin.ext
  match a with
  | ⟨0, _⟩ => show win0_1.index t (0 : Fin 3) * 4 + 1 * (j 0).val = (j 0).val; omega
  | ⟨1, _⟩ => show win0_1.index t (1 : Fin 3) * 4096 + 1 * (j 1).val = (j 1).val; omega
  | ⟨2, _⟩ => show win0_1.index t (2 : Fin 3) * 8192 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S4x4096x8192.Idx) : ((cfg0.win 2).blk t).view.emb j = j := by
  obtain ⟨e0, e1, e2⟩ := idx_zero2 t
  funext a; apply Fin.ext
  match a with
  | ⟨0, _⟩ => show win0_2.index t (0 : Fin 3) * 4 + 1 * (j 0).val = (j 0).val; omega
  | ⟨1, _⟩ => show win0_2.index t (1 : Fin 3) * 4096 + 1 * (j 1).val = (j 1).val; omega
  | ⟨2, _⟩ => show win0_2.index t (2 : Fin 3) * 8192 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S4x4096x8192.Idx) : ((cfg0.win 3).blk t).view.emb j = j := by
  obtain ⟨e0, e1, e2⟩ := idx_zero3 t
  funext a; apply Fin.ext
  match a with
  | ⟨0, _⟩ => show win0_3.index t (0 : Fin 3) * 4 + 1 * (j 0).val = (j 0).val; omega
  | ⟨1, _⟩ => show win0_3.index t (1 : Fin 3) * 4096 + 1 * (j 1).val = (j 1).val; omega
  | ⟨2, _⟩ => show win0_3.index t (2 : Fin 3) * 8192 + 1 * (j 2).val = (j 2).val; omega

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x4096x8192.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 4096 + 1 * (j 1).val = (j 1).val; omega
  | ⟨2, _⟩ => show win0_4.index t (2 : Fin 3) * 8192 + 1 * (j 2).val = (j 2).val; omega

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S4x64x1x4096.Idx) : ((cfg0.win 5).blk t).view.emb j = j := by
  obtain ⟨e0, e1, e2, e3⟩ := idx_zero5 t
  funext a; apply Fin.ext
  match a with
  | ⟨0, _⟩ => show win0_5.index t (0 : Fin 4) * 4 + 1 * (j 0).val = (j 0).val; omega
  | ⟨1, _⟩ => show win0_5.index t (1 : Fin 4) * 64 + 1 * (j 1).val = (j 1).val; omega
  | ⟨2, _⟩ => show win0_5.index t (2 : Fin 4) * 1 + 1 * (j 2).val = (j 2).val; omega
  | ⟨3, _⟩ => show win0_5.index t (3 : Fin 4) * 4096 + 1 * (j 3).val = (j 3).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x4096x8192.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 4096 + 1 * (j 1).val = (j 1).val; omega
  | ⟨2, _⟩ => show win0_6.index t (2 : Fin 3) * 8192 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S4x64x1x4096.Idx) : ((cfg0.win 7).blk t).view.emb j = j := by
  obtain ⟨e0, e1, e2, e3⟩ := idx_zero7 t
  funext a; apply Fin.ext
  match a with
  | ⟨0, _⟩ => show win0_7.index t (0 : Fin 4) * 4 + 1 * (j 0).val = (j 0).val; omega
  | ⟨1, _⟩ => show win0_7.index t (1 : Fin 4) * 64 + 1 * (j 1).val = (j 1).val; omega
  | ⟨2, _⟩ => show win0_7.index t (2 : Fin 4) * 1 + 1 * (j 2).val = (j 2).val; omega
  | ⟨3, _⟩ => show win0_7.index t (3 : Fin 4) * 4096 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S4x4096x8192.Idx) : ((cfg0.win 8).blk t).view.emb j = j := by
  obtain ⟨e0, e1, e2⟩ := idx_zero8 t
  funext a; apply Fin.ext
  match a with
  | ⟨0, _⟩ => show win0_8.index t (0 : Fin 3) * 4 + 1 * (j 0).val = (j 0).val; omega
  | ⟨1, _⟩ => show win0_8.index t (1 : Fin 3) * 4096 + 1 * (j 1).val = (j 1).val; omega
  | ⟨2, _⟩ => show win0_8.index t (2 : Fin 3) * 8192 + 1 * (j 2).val = (j 2).val; omega

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S4x64x1x128.Idx) : ((cfg0.win 9).blk t).view.emb j = j := by
  obtain ⟨e0, e1, e2, e3⟩ := idx_zero9 t
  funext a; apply Fin.ext
  match a with
  | ⟨0, _⟩ => show win0_9.index t (0 : Fin 4) * 4 + 1 * (j 0).val = (j 0).val; omega
  | ⟨1, _⟩ => show win0_9.index t (1 : Fin 4) * 64 + 1 * (j 1).val = (j 1).val; omega
  | ⟨2, _⟩ => show win0_9.index t (2 : Fin 4) * 1 + 1 * (j 2).val = (j 2).val; omega
  | ⟨3, _⟩ => show win0_9.index t (3 : Fin 4) * 128 + 1 * (j 3).val = (j 3).val; omega

/-! ### Output window 3: the array after the run -/

/-- What the window's array ends holding: `out0_3` applied to the argument arrays in place of the input blocks. -/
abbrev G3 (a0 : Vec F S4x4096x8192 .bf16) (a1 : Vec F S4x4096x8192 .bf16) (a2 : Vec F S4x4096x8192 .bf16) : Vec F S4x4096x8192 .bf16 :=
  k0_pay23 (k0_pay40 a0 a1 a2) (k0_pay41 a0 a1 a2) (k0_pay21 (k0_pay30 a0 a1 a2) (k0_pay31 a0 a1 a2) (k0_pay35 a0 a1 a2) (k0_pay36 a0 a1 a2)) (k0_pay22 (k0_pay30 a0 a1 a2) (k0_pay31 a0 a1 a2) (k0_pay35 a0 a1 a2) (k0_pay36 a0 a1 a2))

/-- The one store through the whole rectangle leaves its payload. -/
theorem out3_eq (a0 : Vec F S4x4096x8192 .bf16) (a1 : Vec F S4x4096x8192 .bf16) (a2 : Vec F S4x4096x8192 .bf16) : out0_3 (F := F) a0 a1 a2 = G3 a0 a1 a2 := by
  unfold out0_3
  rw [View.canon_unit_zero hz3]

/-- Cutting the point's block out of `X` and reading `X` through the block's view give the same. -/
theorem cut3_eq (t : Fin cfg0.N) (X : Vec F S4x4096x8192 .bf16) :
    (cfg0.win 3).cut (grid0.coords t) X = ((cfg0.win 3).blk t).view.read (Elt F) X := by
  funext j
  show X j = X (((cfg0.win 3).blk t).view.emb j)
  rw [emb3]

/-- WHAT THE POINT WRITES BACK is its block of `G3` of the argument arrays as the region finds them. -/
theorem flushed3_eq (c : Dev nD) (t : Fin cfg0.N) :
    (dats m 0 c).flushed 3 t = ((cfg0.win 3).blk t).view.read (Elt F) (G3 (V m c main_arg0) (V m c main_arg1) (V m c main_arg2)) := by
  show (cfg0.win 3).cut (grid0.coords t) ((dats m 0 c).after 3 t) = _
  rw [after0_3, out3_eq, iblk0_eq, iblk1_eq, iblk2_eq]
  exact cut3_eq t _

/-- Every index of the array is in the point's block. -/
theorem covered3 (i : S4x4096x8192.Idx) :
    ∃ t : Fin cfg0.N, (cfg0.win 3).flush t = true ∧ i ∈ ((cfg0.win 3).blk t).view.set :=
  ⟨(⟨0, by decide⟩ : Fin cfg0.N), flush0_3 _, by have h := ((cfg0.win 3).blk (⟨0, by decide⟩ : Fin cfg0.N)).view.emb_mem_set i; rwa [emb3] at h⟩

/-- THE ARRAY after the run: `G3` of the argument arrays as launched. -/
theorem final3 (c : Dev nD) : (dats m 0 c).arrAt 3 cfg0.N = G3 (m ((c : Thread nD τ).loc main_arg0)) (m ((c : Thread nD τ).loc main_arg1)) (m ((c : Thread nD τ).loc main_arg2)) :=
  ((dats m 0 c).arrAt_eq_of_cover 3 (G3 (V m c main_arg0) (V m c main_arg1) (V m c main_arg2)) (fun t _ => flushed3_eq m c t) covered3).trans (by rw [V_main_arg0, V_main_arg1, V_main_arg2])

/-! ### Output window 4: the array after the run -/

/-- What the window's array ends holding: `out0_4` applied to the argument arrays in place of the input blocks. -/
abbrev G4 (a0 : Vec F S4x4096x8192 .bf16) (a1 : Vec F S4x4096x8192 .bf16) (a2 : Vec F S4x4096x8192 .bf16) : Vec F S4x4096x8192 .fp8e4m3 :=
  k0_pay24 (k0_pay30 a0 a1 a2)

/-- The one store through the whole rectangle leaves its payload. -/
theorem out4_eq (a0 : Vec F S4x4096x8192 .bf16) (a1 : Vec F S4x4096x8192 .bf16) (a2 : Vec F S4x4096x8192 .bf16) : out0_4 (F := F) a0 a1 a2 = G4 a0 a1 a2 := by
  unfold out0_4
  rw [View.canon_unit_zero hz4]

/-- Cutting the point's block out of `X` and reading `X` through the block's view give the same. -/
theorem cut4_eq (t : Fin cfg0.N) (X : Vec F S4x4096x8192 .fp8e4m3) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2)) := by
  show (cfg0.win 4).cut (grid0.coords t) ((dats m 0 c).after 4 t) = _
  rw [after0_4, out4_eq, iblk0_eq, iblk1_eq, iblk2_eq]
  exact cut4_eq t _

/-- Every index of the array is in the point's block. -/
theorem covered4 (i : S4x4096x8192.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) :=
  ((dats m 0 c).arrAt_eq_of_cover 4 (G4 (V m c main_arg0) (V m c main_arg1) (V m c main_arg2)) (fun t _ => flushed4_eq m c t) covered4).trans (by rw [V_main_arg0, V_main_arg1, V_main_arg2])

/-! ### Output window 5: the array after the run -/

/-- What the window's array ends holding: `out0_5` applied to the argument arrays in place of the input blocks. -/
abbrev G5 (a0 : Vec F S4x4096x8192 .bf16) (a1 : Vec F S4x4096x8192 .bf16) (a2 : Vec F S4x4096x8192 .bf16) : Vec F S4x64x1x4096 .f32 :=
  k0_pay27 (k0_pay31 a0 a1 a2)

/-- The one store through the whole rectangle leaves its payload. -/
theorem out5_eq (a0 : Vec F S4x4096x8192 .bf16) (a1 : Vec F S4x4096x8192 .bf16) (a2 : Vec F S4x4096x8192 .bf16) : out0_5 (F := F) a0 a1 a2 = G5 a0 a1 a2 := by
  unfold out0_5
  rw [View.canon_unit_zero hz5]

/-- Cutting the point's block out of `X` and reading `X` through the block's view give the same. -/
theorem cut5_eq (t : Fin cfg0.N) (X : Vec F S4x64x1x4096 .f32) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2)) := by
  show (cfg0.win 5).cut (grid0.coords t) ((dats m 0 c).after 5 t) = _
  rw [after0_5, out5_eq, iblk0_eq, iblk1_eq, iblk2_eq]
  exact cut5_eq t _

/-- Every index of the array is in the point's block. -/
theorem covered5 (i : S4x64x1x4096.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) :=
  ((dats m 0 c).arrAt_eq_of_cover 5 (G5 (V m c main_arg0) (V m c main_arg1) (V m c main_arg2)) (fun t _ => flushed5_eq m c t) covered5).trans (by rw [V_main_arg0, V_main_arg1, V_main_arg2])

/-! ### Output window 6: the array after the run -/

/-- What the window's array ends holding: `out0_6` applied to the argument arrays in place of the input blocks. -/
abbrev G6 (a0 : Vec F S4x4096x8192 .bf16) (a1 : Vec F S4x4096x8192 .bf16) (a2 : Vec F S4x4096x8192 .bf16) : Vec F S4x4096x8192 .fp8e4m3 :=
  k0_pay25 (k0_pay35 a0 a1 a2)

/-- The one store through the whole rectangle leaves its payload. -/
theorem out6_eq (a0 : Vec F S4x4096x8192 .bf16) (a1 : Vec F S4x4096x8192 .bf16) (a2 : Vec F S4x4096x8192 .bf16) : out0_6 (F := F) a0 a1 a2 = G6 a0 a1 a2 := by
  unfold out0_6
  rw [View.canon_unit_zero hz6]

/-- Cutting the point's block out of `X` and reading `X` through the block's view give the same. -/
theorem cut6_eq (t : Fin cfg0.N) (X : Vec F S4x4096x8192 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2)) := by
  show (cfg0.win 6).cut (grid0.coords t) ((dats m 0 c).after 6 t) = _
  rw [after0_6, out6_eq, iblk0_eq, iblk1_eq, iblk2_eq]
  exact cut6_eq t _

/-- Every index of the array is in the point's block. -/
theorem covered6 (i : S4x4096x8192.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) :=
  ((dats m 0 c).arrAt_eq_of_cover 6 (G6 (V m c main_arg0) (V m c main_arg1) (V m c main_arg2)) (fun t _ => flushed6_eq m c t) covered6).trans (by rw [V_main_arg0, V_main_arg1, V_main_arg2])

/-! ### Output window 7: the array after the run -/

/-- What the window's array ends holding: `out0_7` applied to the argument arrays in place of the input blocks. -/
abbrev G7 (a0 : Vec F S4x4096x8192 .bf16) (a1 : Vec F S4x4096x8192 .bf16) (a2 : Vec F S4x4096x8192 .bf16) : Vec F S4x64x1x4096 .f32 :=
  k0_pay28 (k0_pay36 a0 a1 a2)

/-- The one store through the whole rectangle leaves its payload. -/
theorem out7_eq (a0 : Vec F S4x4096x8192 .bf16) (a1 : Vec F S4x4096x8192 .bf16) (a2 : Vec F S4x4096x8192 .bf16) : out0_7 (F := F) a0 a1 a2 = G7 a0 a1 a2 := by
  unfold out0_7
  rw [View.canon_unit_zero hz7]

/-- Cutting the point's block out of `X` and reading `X` through the block's view give the same. -/
theorem cut7_eq (t : Fin cfg0.N) (X : Vec F S4x64x1x4096 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2)) := by
  show (cfg0.win 7).cut (grid0.coords t) ((dats m 0 c).after 7 t) = _
  rw [after0_7, out7_eq, iblk0_eq, iblk1_eq, iblk2_eq]
  exact cut7_eq t _

/-- Every index of the array is in the point's block. -/
theorem covered7 (i : S4x64x1x4096.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) :=
  ((dats m 0 c).arrAt_eq_of_cover 7 (G7 (V m c main_arg0) (V m c main_arg1) (V m c main_arg2)) (fun t _ => flushed7_eq m c t) covered7).trans (by rw [V_main_arg0, V_main_arg1, V_main_arg2])

/-! ### Output window 8: the array after the run -/

/-- What the window's array ends holding: `out0_8` applied to the argument arrays in place of the input blocks. -/
abbrev G8 (a0 : Vec F S4x4096x8192 .bf16) (a1 : Vec F S4x4096x8192 .bf16) (a2 : Vec F S4x4096x8192 .bf16) : Vec F S4x4096x8192 .fp8e4m3 :=
  k0_pay26 (k0_pay40 a0 a1 a2)

/-- The one store through the whole rectangle leaves its payload. -/
theorem out8_eq (a0 : Vec F S4x4096x8192 .bf16) (a1 : Vec F S4x4096x8192 .bf16) (a2 : Vec F S4x4096x8192 .bf16) : out0_8 (F := F) a0 a1 a2 = G8 a0 a1 a2 := by
  unfold out0_8
  rw [View.canon_unit_zero hz8]

/-- Cutting the point's block out of `X` and reading `X` through the block's view give the same. -/
theorem cut8_eq (t : Fin cfg0.N) (X : Vec F S4x4096x8192 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2)) := by
  show (cfg0.win 8).cut (grid0.coords t) ((dats m 0 c).after 8 t) = _
  rw [after0_8, out8_eq, iblk0_eq, iblk1_eq, iblk2_eq]
  exact cut8_eq t _

/-- Every index of the array is in the point's block. -/
theorem covered8 (i : S4x4096x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) :=
  ((dats m 0 c).arrAt_eq_of_cover 8 (G8 (V m c main_arg0) (V m c main_arg1) (V m c main_arg2)) (fun t _ => flushed8_eq m c t) covered8).trans (by rw [V_main_arg0, V_main_arg1, V_main_arg2])

/-! ### Output window 9: the array after the run -/

/-- What the window's array ends holding: `out0_9` applied to the argument arrays in place of the input blocks. -/
abbrev G9 (a0 : Vec F S4x4096x8192 .bf16) (a1 : Vec F S4x4096x8192 .bf16) (a2 : Vec F S4x4096x8192 .bf16) : Vec F S4x64x1x128 .f32 :=
  k0_pay29 (k0_pay41 a0 a1 a2)

/-- The one store through the whole rectangle leaves its payload. -/
theorem out9_eq (a0 : Vec F S4x4096x8192 .bf16) (a1 : Vec F S4x4096x8192 .bf16) (a2 : Vec F S4x4096x8192 .bf16) : out0_9 (F := F) a0 a1 a2 = G9 a0 a1 a2 := by
  unfold out0_9
  rw [View.canon_unit_zero hz9]

/-- Cutting the point's block out of `X` and reading `X` through the block's view give the same. -/
theorem cut9_eq (t : Fin cfg0.N) (X : Vec F S4x64x1x128 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2)) := by
  show (cfg0.win 9).cut (grid0.coords t) ((dats m 0 c).after 9 t) = _
  rw [after0_9, out9_eq, iblk0_eq, iblk1_eq, iblk2_eq]
  exact cut9_eq t _

/-- Every index of the array is in the point's block. -/
theorem covered9 (i : S4x64x1x128.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) :=
  ((dats m 0 c).arrAt_eq_of_cover 9 (G9 (V m c main_arg0) (V m c main_arg1) (V m c main_arg2)) (fun t _ => flushed9_eq m c t) covered9).trans (by rw [V_main_arg0, V_main_arg1, V_main_arg2])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c⟩)
    (run_main m ρ)

end Cert.ReferenceIdeal.Run

end
-- ==== Proof.Same.lean ====
module

public import proofs.«01_k».proof.Proof.Win
public import proofs.«01_k».proof.Proof.Out3
public import proofs.«01_k».proof.Proof.Ref
public import proofs.«01_k».proof.Proof.RefRun

@[expose] public section

set_option maxRecDepth 16384

/-! The kernel's block of batch entry `b` and head `h` is the reference's results there. -/

noncomputable section

namespace Cert.Same

open Idealize.ShloMosaic Cert.Scale Cert.Attn Cert.KernelIdeal.Blk
open Cert.ReferenceIdeal.Row (col rm cm)

/-- The block of batch entry `b` and head `h` of an argument array. -/
def bk (P : Vec Ideal Cert.KernelIdeal.S4x4096x8192 .bf16) (b : Fin 4) (h : Fin 64) : Vec Ideal Cert.KernelIdeal.S1x4096x128 .bf16 :=
  fun y => P (ix3 b (⟨(y 1).val, (y 1).isLt⟩ : Fin 4096) (col h (⟨(y 2).val, (y 2).isLt⟩ : Fin 128)))

variable (P0 P1 P2 : Vec Ideal Cert.KernelIdeal.S4x4096x8192 .bf16) (b : Fin 4) (h : Fin 64)

theorem rmax_bk (P : Vec Ideal Cert.KernelIdeal.S4x4096x8192 .bf16) (s : Fin 4096) : rmax (bk P b h) s = rm P b s h := rfl
theorem cmax_bk (P : Vec Ideal Cert.KernelIdeal.S4x4096x8192 .bf16) (d : Fin 128) : cmax (bk P b h) d = cm P b h d := rfl

section reference

open Cert.ReferenceIdeal Cert.ReferenceIdeal.Gen Cert.ReferenceIdeal.Row Cert.ReferenceIdeal.Run

theorem r30 (s : Fin 4096) (d : Fin 128) : k0_pay30 P0 P1 P2 (ix4 b s h d) = clip (P0 (ix3 b s (col h d)) * rinv (rm P0 b s h)) := by
  unfold k0_pay30; rw [View.ld_unit_zero Run.hz0]; exact codes_q P0 b s h d
theorem r31 (s : Fin 4096) : k0_pay31 P0 P1 P2 (ix4 b s h (0 : Fin 1)) = rscale (rm P0 b s h) := by
  unfold k0_pay31; rw [View.ld_unit_zero Run.hz0]; exact scale_q P0 b s h
theorem r35 (s : Fin 4096) (d : Fin 128) : k0_pay35 P0 P1 P2 (ix4 b s h d) = clip (P1 (ix3 b s (col h d)) * rinv (rm P1 b s h)) := by
  unfold k0_pay35 k0_pay32 k0_pay33 k0_pay34; rw [View.ld_unit_zero Run.hz0]; exact codes_k P1 b s h d
theorem r36 (s : Fin 4096) : k0_pay36 P0 P1 P2 (ix4 b s h (0 : Fin 1)) = rscale (rm P1 b s h) := by
  unfold k0_pay36 k0_pay32 k0_pay33 k0_pay34; rw [View.ld_unit_zero Run.hz0]; exact scale_k P1 b s h
theorem r40 (s : Fin 4096) (d : Fin 128) : k0_pay40 P0 P1 P2 (ix4 b s h d) = clip (P2 (ix3 b s (col h d)) * rinv (cm P2 b h d)) := by
  unfold k0_pay40 k0_pay37 k0_pay38 k0_pay39; rw [View.ld_unit_zero Run.hz0]; exact codes_v P2 b s h d
theorem r41 (d : Fin 128) : k0_pay41 P0 P1 P2 (ix4 b (0 : Fin 1) h d) = rscale (cm P2 b h d) := by
  unfold k0_pay41 k0_pay37 k0_pay38 k0_pay39; rw [View.ld_unit_zero Run.hz0]; exact scale_v P2 b h d

end reference

section
variable (P : Vec Ideal Cert.KernelIdeal.S4x4096x8192 .bf16) (hP : ∀ i, Fin' (P i))
include hP

theorem row_code (s : Fin 4096) (x : EReal) : code (rm P b s h) x = clip (x * rinv (rm P b s h)) :=
  code_eq (by decide) _ (fun _ => hP _) x
theorem row_scale (s : Fin 4096) : kscale (rm P b s h * c448) = rscale (rm P b s h) :=
  kscale_eq (by decide) _ fun _ => hP _
theorem col_code (d : Fin 128) (x : EReal) : code (cm P b h d) x = clip (x * rinv (cm P b h d)) :=
  code_eq (by decide) _ (fun _ => hP _) x
theorem col_scale (d : Fin 128) : kscale (cm P b h d * c448) = rscale (cm P b h d) :=
  kscale_eq (by decide) _ fun _ => hP _

end

section codes
variable (h0 : ∀ i, Fin' (P0 i)) (h1 : ∀ i, Fin' (P1 i)) (h2 : ∀ i, Fin' (P2 i))

open Cert.ReferenceIdeal.Gen in
include h0 in
theorem cq_eq (s : Fin 4096) (d : Fin 128) : cq (bk P0 b h) (ix3 (0 : Fin 1) s d) = k0_pay30 P0 P1 P2 (ix4 b s h d) := by
  rw [r30, ← row_code b h P0 h0]; exact codes_q (bk P0 b h) s d
open Cert.ReferenceIdeal.Gen in
include h0 in
theorem sq_eq (s : Fin 4096) : sq (bk P0 b h) (ix4 (0 : Fin 1) (0 : Fin 1) (0 : Fin 1) s) = k0_pay31 P0 P1 P2 (ix4 b s h (0 : Fin 1)) := by
  rw [r31, ← row_scale b h P0 h0]; exact scale_q (bk P0 b h) s
open Cert.ReferenceIdeal.Gen in
include h1 in
theorem ck_eq (s : Fin 4096) (d : Fin 128) : ck (bk P1 b h) (ix3 (0 : Fin 1) s d) = k0_pay35 P0 P1 P2 (ix4 b s h d) := by
  rw [r35, ← row_code b h P1 h1]; exact codes_k (bk P1 b h) s d
open Cert.ReferenceIdeal.Gen in
include h1 in
theorem sk_eq (s : Fin 4096) : sk (bk P1 b h) (ix4 (0 : Fin 1) (0 : Fin 1) (0 : Fin 1) s) = k0_pay36 P0 P1 P2 (ix4 b s h (0 : Fin 1)) := by
  rw [r36, ← row_scale b h P1 h1]; exact scale_k (bk P1 b h) s
open Cert.ReferenceIdeal.Gen in
include h2 in
theorem cv_eq (s : Fin 4096) (d : Fin 128) : cv (bk P2 b h) (ix3 (0 : Fin 1) s d) = k0_pay40 P0 P1 P2 (ix4 b s h d) := by
  rw [r40, ← col_code b h P2 h2]; exact codes_v (bk P2 b h) s d
open Cert.ReferenceIdeal.Gen in
include h2 in
theorem sv_eq (d : Fin 128) : sv (bk P2 b h) (ix4 (0 : Fin 1) (0 : Fin 1) (0 : Fin 1) d) = k0_pay41 P0 P1 P2 (ix4 b (0 : Fin 1) h d) := by
  rw [r41, ← col_scale b h P2 h2]; exact scale_v (bk P2 b h) d
open Cert.ReferenceIdeal.Gen in
include h2 in
theorem svl_eq (d : Fin 128) : svl (bk P2 b h) (ix2 (0 : Fin 1) d) = k0_pay41 P0 P1 P2 (ix4 b (0 : Fin 1) h d) := by
  rw [r41, ← col_scale b h P2 h2]; exact scale_v' (bk P2 b h) d

/-- A sum of reals, in the extended reals. -/
theorem coe_sum {ι : Type} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

open Cert.ReferenceIdeal.Gen in
include h0 h1 in
/-- The kernel's score is the reference's, times (log 2)⁻¹; both are real. -/
theorem scores (s j : Fin 4096) : ∃ w : ℝ,
    (∑ x : Fin 128, k0_pay30 P0 P1 P2 (ix4 b s h x) * k0_pay35 P0 P1 P2 (ix4 b j h x)) *
      (k0_pay31 P0 P1 P2 (ix4 b s h (0 : Fin 1)) * k0_pay36 P0 P1 P2 (ix4 b j h (0 : Fin 1)) *
        (Named.named (F := Ideal) (φ := .f32) Cert.ReferenceIdeal.κ "sm_scale" 0x3DB504F3#32 : EReal)) = ((w : ℝ) : EReal)
    ∧ usc (bk P0 b h) (bk P1 b h) s j = ((w * (Real.log 2)⁻¹ : ℝ) : EReal) := by
  have n1 : (Named.named (F := Ideal) (φ := .f32) Cert.ReferenceIdeal.κ "sm_scale" 0x3DB504F3#32 : EReal) = (((Real.sqrt 128)⁻¹ : ℝ) : EReal) :=
    IdealRules.named_const.ideal_named_scalar _ _ _ _ rfl
  have n2 : (Named.named (F := Ideal) (φ := .f32) Cert.KernelIdeal.κ "sm_log2e" 0x3E0293EE#32 : EReal) = (((Real.sqrt 128)⁻¹ * (Real.log 2)⁻¹ : ℝ) : EReal) :=
    IdealRules.named_const.ideal_named_scalar _ _ _ _ rfl
  have hq : ∀ x, ∃ r : ℝ, cq (bk P0 b h) (ix3 (0 : Fin 1) s x) = (r : EReal) := fun x => by
    obtain ⟨r, hr⟩ := code_real (n := 128) (by decide) (fun d => P0 (ix3 b s (col h d))) (fun _ => h0 _) (P0 (ix3 b s (col h x))) (h0 _)
    exact ⟨r, (codes_q (bk P0 b h) s x).trans hr⟩
  have hk : ∀ x, ∃ r : ℝ, ck (bk P1 b h) (ix3 (0 : Fin 1) j x) = (r : EReal) := fun x => by
    obtain ⟨r, hr⟩ := code_real (n := 128) (by decide) (fun d => P1 (ix3 b j (col h d))) (fun _ => h1 _) (P1 (ix3 b j (col h x))) (h1 _)
    exact ⟨r, (codes_k (bk P1 b h) j x).trans hr⟩
  obtain ⟨e0, he0⟩ := kscale_real (n := 128) (by decide) (fun d => P0 (ix3 b s (col h d))) (fun _ => h0 _)
  obtain ⟨e1, he1⟩ := kscale_real (n := 128) (by decide) (fun d => P1 (ix3 b j (col h d))) (fun _ => h1 _)
  choose q hq using hq
  choose k hk using hk
  have g0 : kscale (rmax (bk P0 b h) s * c448) = (e0 : EReal) := he0
  have g1 : sk (bk P1 b h) (ix4 (0 : Fin 1) (0 : Fin 1) (0 : Fin 1) j) = (e1 : EReal) := (scale_k (bk P1 b h) j).trans he1
  have g0' : sq (bk P0 b h) (ix4 (0 : Fin 1) (0 : Fin 1) (0 : Fin 1) s) = (e0 : EReal) := (scale_q (bk P0 b h) s).trans he0
  refine ⟨(∑ x, q x * k x) * (e0 * e1 * (Real.sqrt 128)⁻¹), ?_, ?_⟩
  · simp only [← cq_eq P0 P1 P2 b h h0, ← ck_eq P0 P1 P2 b h h1, ← sq_eq P0 P1 P2 b h h0, ← sk_eq P0 P1 P2 b h h1]
    simp only [hq, hk, g0', g1, n1, ← EReal.coe_mul, coe_sum]
  · unfold usc
    simp only [hq, hk, g0, g1, n2, ← EReal.coe_mul, coe_sum]
    congr 1
    ring

open Cert.ReferenceIdeal Cert.ReferenceIdeal.Gen Cert.ReferenceIdeal.Row Cert.ReferenceIdeal.Run in
include h0 h1 h2 in
/-- The result block is the reference's result. -/
theorem oW_eq (s : Fin 4096) (d : Fin 128) :
    oW (bk P0 b h) (bk P1 b h) (bk P2 b h) (ix3 (0 : Fin 1) s d) = G3 P0 P1 P2 (ix3 b s (col h d)) := by
  choose S hS hU using scores P0 P1 P2 b h h0 h1 s
  have hsc : score (k0_pay30 P0 P1 P2) (k0_pay31 P0 P1 P2) (k0_pay35 P0 P1 P2) (k0_pay36 P0 P1 P2) b h s = sc s.val S := funext fun j => by
    unfold score sc
    rw [hS j, ninf]
    exact select_if _ _ _ _ (maskw_eq j.val s.val j.isLt s.isLt)
  have hp : ∀ j, k0_pay20 (k0_pay30 P0 P1 P2) (k0_pay31 P0 P1 P2) (k0_pay35 P0 P1 P2) (k0_pay36 P0 P1 P2) (ix4 b h s j) = pr s.val S j := fun j => by
    rw [pay20_apply, hsc, ninf]; rfl
  have hr : qrow (tripOf (ix3 (0 : Fin 1) s d)) (⟨s.val % 256, Nat.mod_lt _ (by decide)⟩ : Fin 256) = s :=
    Fin.ext (by show 256 * (s.val / 256) + s.val % 256 = s.val; omega)
  have key := trW_row (tripOf (ix3 (0 : Fin 1) s d)) (bk P0 b h) (bk P1 b h) (bk P2 b h) (⟨s.val % 256, Nat.mod_lt _ (by decide)⟩ : Fin 256) d S
    (by rw [hr]; exact hU)
  rw [hr] at key
  refine Eq.trans key ?_
  unfold G3
  rw [pay23_apply, pay21_apply]
  simp only [pay22_apply, hp, cv_eq P0 P1 P2 b h h2, svl_eq P0 P1 P2 b h h2]
  congr 3
  exact Finset.sum_congr rfl fun j _ => mul_comm _ _

end codes

end Cert.Same
-- ==== Proof.Emb.lean ====
module

public import proofs.«01_k».proof.Proof.Same

@[expose] public section

set_option maxRecDepth 16384

/-! Where each window's block lies in its array. -/

noncomputable section

namespace Cert.Final

open Cert.KernelIdeal Cert.KernelIdeal.Gen Cert.KernelIdeal.Value Idealize.ShloMosaic Idealize.ShloMosaic.TcCoe Idealize.SL.Sem
open Cert.KernelIdeal.Blk Cert.Scale Cert.Same
open Cert.ReferenceIdeal.Row (col)
open Cert.ReferenceIdeal.Run (G3 G4 G5 G6 G7 G8 G9)

variable (m : (ℓ : Loc nD τ sig) → Buf (Elt Ideal) ℓ) (ρ : Dev nD → PrngReg)

theorem N_eq : cfg0.N = 256 := by decide +kernel

/-- The batch entry of a point. -/
def pb (t : Fin cfg0.N) : Fin 4 := ⟨t.val / 64, by have := t.isLt; have := N_eq; omega⟩
/-- The head of a point. -/
def ph (t : Fin cfg0.N) : Fin 64 := ⟨t.val % 64, by omega⟩
/-- The point of a batch entry and a head. -/
def pt (b : Fin 4) (h : Fin 64) : Fin cfg0.N := ⟨b.val * 64 + h.val, by have := N_eq; omega⟩

theorem pb_pt (b : Fin 4) (h : Fin 64) : pb (pt b h) = b := Fin.ext (by show (b.val * 64 + h.val) / 64 = b.val; omega)
theorem ph_pt (b : Fin 4) (h : Fin 64) : ph (pt b h) = h := Fin.ext (by show (b.val * 64 + h.val) % 64 = h.val; omega)

/-- The head of a channel of the array. -/
def ch (i : Fin 8192) : Fin 64 := ⟨i.val / 128, by omega⟩
/-- The place in its head of a channel of the array. -/
def cd (i : Fin 8192) : Fin 128 := ⟨i.val % 128, by omega⟩
theorem col_ch (i : Fin 8192) : col (ch i) (cd i) = i := Fin.ext (by show i.val / 128 * 128 + i.val % 128 = i.val; omega)

theorem eta3 {a b c : ℕ} (i : (⟨3, ![a, b, c]⟩ : Shape).Idx) : i = ix3 (i 0) (i 1) (i 2) :=
  funext fun x => by match x with | ⟨0, _⟩ => rfl | ⟨1, _⟩ => rfl | ⟨2, _⟩ => rfl
theorem eta3' {b c : ℕ} (i : (⟨3, ![1, b, c]⟩ : Shape).Idx) : i = ix3 (0 : Fin 1) (i 1) (i 2) :=
  funext fun x => by match x with | ⟨0, _⟩ => exact Subsingleton.elim (α := Fin 1) _ _ | ⟨1, _⟩ => rfl | ⟨2, _⟩ => rfl
theorem eta4' {d : ℕ} (i : (⟨4, ![1, 1, 1, d]⟩ : Shape).Idx) : i = ix4 (0 : Fin 1) (0 : Fin 1) (0 : Fin 1) (i 3) :=
  funext fun x => by
    match x with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
theorem eta4'' {a b d : ℕ} (i : (⟨4, ![a, b, 1, d]⟩ : Shape).Idx) : i = ix4 (i 0) (i 1) (0 : Fin 1) (i 3) :=
  funext fun x => by
    match x with
    | ⟨0, _⟩ => rfl
    | ⟨1, _⟩ => rfl
    | ⟨2, _⟩ => exact Subsingleton.elim (α := Fin 1) _ _
    | ⟨3, _⟩ => rfl

theorem all3 {a b c : ℕ} {p : (⟨3, ![a, b, c]⟩ : Shape).Idx → Prop} (h : ∀ x y z, p (ix3 x y z)) (i : (⟨3, ![a, b, c]⟩ : Shape).Idx) : p i :=
  (eta3 i).symm ▸ h (i 0) (i 1) (i 2)
theorem all4 {a b d : ℕ} {p : (⟨4, ![a, b, 1, d]⟩ : Shape).Idx → Prop} (h : ∀ x y z, p (ix4 x y (0 : Fin 1) z)) (i : (⟨4, ![a, b, 1, d]⟩ : Shape).Idx) : p i :=
  (eta4'' i).symm ▸ h (i 0) (i 1) (i 3)
theorem mem_of {κ : Kind} {sp : Space} {s : Shape} {e : EltTy} (v : View sig κ sp s e) (x : s.Idx) (i : v.ty.Idx) (h : v.emb x = i) : i ∈ v.set :=
  h ▸ v.emb_mem_set x

theorem idx0 : ∀ t : Fin cfg0.N, win0_0.index t (0 : Fin 3) = t.val / 64 ∧ win0_0.index t (1 : Fin 3) = 0 ∧ win0_0.index t (2 : Fin 3) = t.val % 64 :=
  (by decide +kernel : ∀ t : Fin grid0.N, _)

theorem emb0 (t : Fin cfg0.N) (s : Fin 4096) (d : Fin 128) : ((cfg0.win 0).blk t).view.emb (ix3 (0 : Fin 1) s d) = ix3 (pb t) s (col (ph t) d) := by
  obtain ⟨e0, e1, e2⟩ := idx0 t
  funext a; apply Fin.ext
  match a with
  | ⟨0, _⟩ => show win0_0.index t (0 : Fin 3) * 1 + 1 * 0 = t.val / 64; omega
  | ⟨1, _⟩ => show win0_0.index t (1 : Fin 3) * 4096 + 1 * s.val = s.val; omega
  | ⟨2, _⟩ => show win0_0.index t (2 : Fin 3) * 128 + 1 * d.val = t.val % 64 * 128 + d.val; omega

theorem iblk0_eq (c : Dev nD) (t : Fin cfg0.N) : iblk m c 0 t = bk (V m c main_arg0) (pb t) (ph t) := by
  funext (j : S1x4096x128.Idx)
  have ej : j = ix3 (0 : Fin 1) (j 1) (j 2) := eta3' j
  rw [ej]
  exact congrArg (V m c main_arg0) (emb0 t (j 1) (j 2))

theorem idx1 : ∀ t : Fin cfg0.N, win0_1.index t (0 : Fin 3) = t.val / 64 ∧ win0_1.index t (1 : Fin 3) = 0 ∧ win0_1.index t (2 : Fin 3) = t.val % 64 :=
  (by decide +kernel : ∀ t : Fin grid0.N, _)

theorem emb1 (t : Fin cfg0.N) (s : Fin 4096) (d : Fin 128) : ((cfg0.win 1).blk t).view.emb (ix3 (0 : Fin 1) s d) = ix3 (pb t) s (col (ph t) d) := by
  obtain ⟨e0, e1, e2⟩ := idx1 t
  funext a; apply Fin.ext
  match a with
  | ⟨0, _⟩ => show win0_1.index t (0 : Fin 3) * 1 + 1 * 0 = t.val / 64; omega
  | ⟨1, _⟩ => show win0_1.index t (1 : Fin 3) * 4096 + 1 * s.val = s.val; omega
  | ⟨2, _⟩ => show win0_1.index t (2 : Fin 3) * 128 + 1 * d.val = t.val % 64 * 128 + d.val; omega

theorem iblk1_eq (c : Dev nD) (t : Fin cfg0.N) : iblk m c 1 t = bk (V m c main_arg1) (pb t) (ph t) := by
  funext (j : S1x4096x128.Idx)
  have ej : j = ix3 (0 : Fin 1) (j 1) (j 2) := eta3' j
  rw [ej]
  exact congrArg (V m c main_arg1) (emb1 t (j 1) (j 2))

theorem idx2 : ∀ t : Fin cfg0.N, win0_2.index t (0 : Fin 3) = t.val / 64 ∧ win0_2.index t (1 : Fin 3) = 0 ∧ win0_2.index t (2 : Fin 3) = t.val % 64 :=
  (by decide +kernel : ∀ t : Fin grid0.N, _)

theorem emb2 (t : Fin cfg0.N) (s : Fin 4096) (d : Fin 128) : ((cfg0.win 2).blk t).view.emb (ix3 (0 : Fin 1) s d) = ix3 (pb t) s (col (ph t) d) := by
  obtain ⟨e0, e1, e2⟩ := idx2 t
  funext a; apply Fin.ext
  match a with
  | ⟨0, _⟩ => show win0_2.index t (0 : Fin 3) * 1 + 1 * 0 = t.val / 64; omega
  | ⟨1, _⟩ => show win0_2.index t (1 : Fin 3) * 4096 + 1 * s.val = s.val; omega
  | ⟨2, _⟩ => show win0_2.index t (2 : Fin 3) * 128 + 1 * d.val = t.val % 64 * 128 + d.val; omega

theorem iblk2_eq (c : Dev nD) (t : Fin cfg0.N) : iblk m c 2 t = bk (V m c main_arg2) (pb t) (ph t) := by
  funext (j : S1x4096x128.Idx)
  have ej : j = ix3 (0 : Fin 1) (j 1) (j 2) := eta3' j
  rw [ej]
  exact congrArg (V m c main_arg2) (emb2 t (j 1) (j 2))

theorem idx3 : ∀ t : Fin cfg0.N, win0_3.index t (0 : Fin 3) = t.val / 64 ∧ win0_3.index t (1 : Fin 3) = 0 ∧ win0_3.index t (2 : Fin 3) = t.val % 64 :=
  (by decide +kernel : ∀ t : Fin grid0.N, _)

theorem emb3 (t : Fin cfg0.N) (s : Fin 4096) (d : Fin 128) : ((cfg0.win 3).blk t).view.emb (ix3 (0 : Fin 1) s d) = ix3 (pb t) s (col (ph t) d) := by
  obtain ⟨e0, e1, e2⟩ := idx3 t
  funext a; apply Fin.ext
  match a with
  | ⟨0, _⟩ => show win0_3.index t (0 : Fin 3) * 1 + 1 * 0 = t.val / 64; omega
  | ⟨1, _⟩ => show win0_3.index t (1 : Fin 3) * 4096 + 1 * s.val = s.val; omega
  | ⟨2, _⟩ => show win0_3.index t (2 : Fin 3) * 128 + 1 * d.val = t.val % 64 * 128 + d.val; omega

theorem idx4 : ∀ t : Fin cfg0.N, win0_4.index t (0 : Fin 3) = t.val / 64 ∧ win0_4.index t (1 : Fin 3) = 0 ∧ win0_4.index t (2 : Fin 3) = t.val % 64 :=
  (by decide +kernel : ∀ t : Fin grid0.N, _)

theorem emb4 (t : Fin cfg0.N) (s : Fin 4096) (d : Fin 128) : ((cfg0.win 4).blk t).view.emb (ix3 (0 : Fin 1) s d) = ix3 (pb t) s (col (ph t) d) := by
  obtain ⟨e0, e1, e2⟩ := idx4 t
  funext a; apply Fin.ext
  match a with
  | ⟨0, _⟩ => show win0_4.index t (0 : Fin 3) * 1 + 1 * 0 = t.val / 64; omega
  | ⟨1, _⟩ => show win0_4.index t (1 : Fin 3) * 4096 + 1 * s.val = s.val; omega
  | ⟨2, _⟩ => show win0_4.index t (2 : Fin 3) * 128 + 1 * d.val = t.val % 64 * 128 + d.val; omega

theorem idx5 : ∀ t : Fin cfg0.N, win0_5.index t (0 : Fin 4) = t.val / 64 ∧ win0_5.index t (1 : Fin 4) = t.val % 64 ∧ win0_5.index t (2 : Fin 4) = 0 ∧ win0_5.index t (3 : Fin 4) = 0 :=
  (by decide +kernel : ∀ t : Fin grid0.N, _)

theorem emb5 (t : Fin cfg0.N) (s : Fin 4096) : ((cfg0.win 5).blk t).view.emb (ix4 (0 : Fin 1) (0 : Fin 1) (0 : Fin 1) s) = ix4 (pb t) (ph t) (0 : Fin 1) s := by
  obtain ⟨e0, e1, e2, e3⟩ := idx5 t
  funext a; apply Fin.ext
  match a with
  | ⟨0, _⟩ => show win0_5.index t (0 : Fin 4) * 1 + 1 * 0 = t.val / 64; omega
  | ⟨1, _⟩ => show win0_5.index t (1 : Fin 4) * 1 + 1 * 0 = t.val % 64; omega
  | ⟨2, _⟩ => show win0_5.index t (2 : Fin 4) * 1 + 1 * 0 = 0; omega
  | ⟨3, _⟩ => show win0_5.index t (3 : Fin 4) * 4096 + 1 * s.val = s.val; omega

theorem idx6 : ∀ t : Fin cfg0.N, win0_6.index t (0 : Fin 3) = t.val / 64 ∧ win0_6.index t (1 : Fin 3) = 0 ∧ win0_6.index t (2 : Fin 3) = t.val % 64 :=
  (by decide +kernel : ∀ t : Fin grid0.N, _)

theorem emb6 (t : Fin cfg0.N) (s : Fin 4096) (d : Fin 128) : ((cfg0.win 6).blk t).view.emb (ix3 (0 : Fin 1) s d) = ix3 (pb t) s (col (ph t) d) := by
  obtain ⟨e0, e1, e2⟩ := idx6 t
  funext a; apply Fin.ext
  match a with
  | ⟨0, _⟩ => show win0_6.index t (0 : Fin 3) * 1 + 1 * 0 = t.val / 64; omega
  | ⟨1, _⟩ => show win0_6.index t (1 : Fin 3) * 4096 + 1 * s.val = s.val; omega
  | ⟨2, _⟩ => show win0_6.index t (2 : Fin 3) * 128 + 1 * d.val = t.val % 64 * 128 + d.val; omega

theorem idx7 : ∀ t : Fin cfg0.N, win0_7.index t (0 : Fin 4) = t.val / 64 ∧ win0_7.index t (1 : Fin 4) = t.val % 64 ∧ win0_7.index t (2 : Fin 4) = 0 ∧ win0_7.index t (3 : Fin 4) = 0 :=
  (by decide +kernel : ∀ t : Fin grid0.N, _)

theorem emb7 (t : Fin cfg0.N) (s : Fin 4096) : ((cfg0.win 7).blk t).view.emb (ix4 (0 : Fin 1) (0 : Fin 1) (0 : Fin 1) s) = ix4 (pb t) (ph t) (0 : Fin 1) s := by
  obtain ⟨e0, e1, e2, e3⟩ := idx7 t
  funext a; apply Fin.ext
  match a with
  | ⟨0, _⟩ => show win0_7.index t (0 : Fin 4) * 1 + 1 * 0 = t.val / 64; omega
  | ⟨1, _⟩ => show win0_7.index t (1 : Fin 4) * 1 + 1 * 0 = t.val % 64; omega
  | ⟨2, _⟩ => show win0_7.index t (2 : Fin 4) * 1 + 1 * 0 = 0; omega
  | ⟨3, _⟩ => show win0_7.index t (3 : Fin 4) * 4096 + 1 * s.val = s.val; omega

theorem idx8 : ∀ t : Fin cfg0.N, win0_8.index t (0 : Fin 3) = t.val / 64 ∧ win0_8.index t (1 : Fin 3) = 0 ∧ win0_8.index t (2 : Fin 3) = t.val % 64 :=
  (by decide +kernel : ∀ t : Fin grid0.N, _)

theorem emb8 (t : Fin cfg0.N) (s : Fin 4096) (d : Fin 128) : ((cfg0.win 8).blk t).view.emb (ix3 (0 : Fin 1) s d) = ix3 (pb t) s (col (ph t) d) := by
  obtain ⟨e0, e1, e2⟩ := idx8 t
  funext a; apply Fin.ext
  match a with
  | ⟨0, _⟩ => show win0_8.index t (0 : Fin 3) * 1 + 1 * 0 = t.val / 64; omega
  | ⟨1, _⟩ => show win0_8.index t (1 : Fin 3) * 4096 + 1 * s.val = s.val; omega
  | ⟨2, _⟩ => show win0_8.index t (2 : Fin 3) * 128 + 1 * d.val = t.val % 64 * 128 + d.val; omega

theorem idx9 : ∀ t : Fin cfg0.N, win0_9.index t (0 : Fin 4) = t.val / 64 ∧ win0_9.index t (1 : Fin 4) = t.val % 64 ∧ win0_9.index t (2 : Fin 4) = 0 ∧ win0_9.index t (3 : Fin 4) = 0 :=
  (by decide +kernel : ∀ t : Fin grid0.N, _)

theorem emb9 (t : Fin cfg0.N) (s : Fin 128) : ((cfg0.win 9).blk t).view.emb (ix4 (0 : Fin 1) (0 : Fin 1) (0 : Fin 1) s) = ix4 (pb t) (ph t) (0 : Fin 1) s := by
  obtain ⟨e0, e1, e2, e3⟩ := idx9 t
  funext a; apply Fin.ext
  match a with
  | ⟨0, _⟩ => show win0_9.index t (0 : Fin 4) * 1 + 1 * 0 = t.val / 64; omega
  | ⟨1, _⟩ => show win0_9.index t (1 : Fin 4) * 1 + 1 * 0 = t.val % 64; omega
  | ⟨2, _⟩ => show win0_9.index t (2 : Fin 4) * 1 + 1 * 0 = 0; omega
  | ⟨3, _⟩ => show win0_9.index t (3 : Fin 4) * 128 + 1 * s.val = s.val; omega

end Cert.Final
-- ==== Proof.Blk.lean ====
module

public import proofs.«01_k».proof.Proof.Emb

@[expose] public section

set_option maxRecDepth 16384

/-! Each result block, entry by entry, and the points that cover each result array. -/

noncomputable section

namespace Cert.Final

open Cert.KernelIdeal Cert.KernelIdeal.Gen Cert.KernelIdeal.Value Idealize.ShloMosaic Idealize.ShloMosaic.TcCoe Idealize.SL.Sem
open Cert.KernelIdeal.Blk Cert.Scale Cert.Same
open Cert.ReferenceIdeal.Row (col)
open Cert.ReferenceIdeal.Run (G3 G4 G5 G6 G7 G8 G9)

variable (m : (ℓ : Loc nD τ sig) → Buf (Elt Ideal) ℓ) (ρ : Dev nD → PrngReg)

section
variable (P0 P1 P2 : Vec Ideal S4x4096x8192 .bf16) (b : Fin 4) (h : Fin 64) (h0 : ∀ i, Fin' (P0 i)) (h1 : ∀ i, Fin' (P1 i)) (h2 : ∀ i, Fin' (P2 i))

theorem p25 (y : FVec Ideal Cert.ReferenceIdeal.S4x4096x64x128 .fp8e4m3) : Cert.ReferenceIdeal.Gen.k0_pay25 y = Cert.ReferenceIdeal.Gen.k0_pay24 y := rfl
theorem p26 (y : FVec Ideal Cert.ReferenceIdeal.S4x4096x64x128 .fp8e4m3) : Cert.ReferenceIdeal.Gen.k0_pay26 y = Cert.ReferenceIdeal.Gen.k0_pay24 y := rfl
theorem p28 (y : FVec Ideal Cert.ReferenceIdeal.S4x4096x64x1 .f32) : Cert.ReferenceIdeal.Gen.k0_pay28 y = Cert.ReferenceIdeal.Gen.k0_pay27 y := rfl

include h0 in
theorem cq_G (s : Fin 4096) (d : Fin 128) : cq (bk P0 b h) (ix3 (0 : Fin 1) s d) = G4 P0 P1 P2 (ix3 b s (col h d)) := by
  unfold G4
  rw [Cert.ReferenceIdeal.Row.pay24_apply]
  exact cq_eq P0 P1 P2 b h h0 s d
include h1 in
theorem ck_G (s : Fin 4096) (d : Fin 128) : ck (bk P1 b h) (ix3 (0 : Fin 1) s d) = G6 P0 P1 P2 (ix3 b s (col h d)) := by
  unfold G6
  rw [p25, Cert.ReferenceIdeal.Row.pay24_apply]
  exact ck_eq P0 P1 P2 b h h1 s d
include h2 in
theorem cv_G (s : Fin 4096) (d : Fin 128) : cv (bk P2 b h) (ix3 (0 : Fin 1) s d) = G8 P0 P1 P2 (ix3 b s (col h d)) := by
  unfold G8
  rw [p26, Cert.ReferenceIdeal.Row.pay24_apply]
  exact cv_eq P0 P1 P2 b h h2 s d
include h0 in
theorem sq_G (s : Fin 4096) : sq (bk P0 b h) (ix4 (0 : Fin 1) (0 : Fin 1) (0 : Fin 1) s) = G5 P0 P1 P2 (ix4 b h (0 : Fin 1) s) := by
  unfold G5
  rw [Cert.ReferenceIdeal.Row.pay27_apply]
  exact sq_eq P0 P1 P2 b h h0 s
include h1 in
theorem sk_G (s : Fin 4096) : sk (bk P1 b h) (ix4 (0 : Fin 1) (0 : Fin 1) (0 : Fin 1) s) = G7 P0 P1 P2 (ix4 b h (0 : Fin 1) s) := by
  unfold G7
  rw [p28, Cert.ReferenceIdeal.Row.pay27_apply]
  exact sk_eq P0 P1 P2 b h h1 s
include h2 in
theorem sv_G (s : Fin 128) : sv (bk P2 b h) (ix4 (0 : Fin 1) (0 : Fin 1) (0 : Fin 1) s) = G9 P0 P1 P2 (ix4 b h (0 : Fin 1) s) := by
  unfold G9
  rw [Cert.ReferenceIdeal.Row.pay29_apply]
  exact sv_eq P0 P1 P2 b h h2 s

end

/-- Window 3's block of an array, from its entries. -/
theorem blk3_of (t : Fin cfg0.N) (X : Vec Ideal S1x4096x128 .bf16) (G : Vec Ideal S4x4096x8192 .bf16)
    (hX : ∀ s d, X (ix3 (0 : Fin 1) s d) = G (ix3 (pb t) s (col (ph t) d))) :
    (cfg0.win 3).cut (grid0.coords t) X = ((cfg0.win 3).blk t).view.read (Elt Ideal) G := by
  funext (j : S1x4096x128.Idx)
  have ej : j = ix3 (0 : Fin 1) (j 1) (j 2) := eta3' j
  rw [ej]
  exact (hX (j 1) (j 2)).trans (congrArg G (emb3 t (j 1) (j 2))).symm

theorem cov3 (b : Fin 4) (s : Fin 4096) (x : Fin 8192) : ∃ t : Fin cfg0.N, (cfg0.win 3).flush t = true ∧ (ix3 b s x : S4x4096x8192.Idx) ∈ ((cfg0.win 3).blk t).view.set :=
  ⟨pt b (ch x), flush0_3 _, mem_of _ _ _ ((emb3 _ s (cd x)).trans (by rw [pb_pt, ph_pt, col_ch]))⟩
theorem covered3 (i : S4x4096x8192.Idx) : ∃ t : Fin cfg0.N, (cfg0.win 3).flush t = true ∧ i ∈ ((cfg0.win 3).blk t).view.set :=
  all3 (p := fun i => ∃ t : Fin cfg0.N, (cfg0.win 3).flush t = true ∧ i ∈ ((cfg0.win 3).blk t).view.set) cov3 i

/-- Window 4's block of an array, from its entries. -/
theorem blk4_of (t : Fin cfg0.N) (X : Vec Ideal S1x4096x128 .fp8e4m3) (G : Vec Ideal S4x4096x8192 .fp8e4m3)
    (hX : ∀ s d, X (ix3 (0 : Fin 1) s d) = G (ix3 (pb t) s (col (ph t) d))) :
    (cfg0.win 4).cut (grid0.coords t) X = ((cfg0.win 4).blk t).view.read (Elt Ideal) G := by
  funext (j : S1x4096x128.Idx)
  have ej : j = ix3 (0 : Fin 1) (j 1) (j 2) := eta3' j
  rw [ej]
  exact (hX (j 1) (j 2)).trans (congrArg G (emb4 t (j 1) (j 2))).symm

theorem cov4 (b : Fin 4) (s : Fin 4096) (x : Fin 8192) : ∃ t : Fin cfg0.N, (cfg0.win 4).flush t = true ∧ (ix3 b s x : S4x4096x8192.Idx) ∈ ((cfg0.win 4).blk t).view.set :=
  ⟨pt b (ch x), flush0_4 _, mem_of _ _ _ ((emb4 _ s (cd x)).trans (by rw [pb_pt, ph_pt, col_ch]))⟩
theorem covered4 (i : S4x4096x8192.Idx) : ∃ t : Fin cfg0.N, (cfg0.win 4).flush t = true ∧ i ∈ ((cfg0.win 4).blk t).view.set :=
  all3 (p := fun i => ∃ t : Fin cfg0.N, (cfg0.win 4).flush t = true ∧ i ∈ ((cfg0.win 4).blk t).view.set) cov4 i

/-- Window 5's block of an array, from its entries. -/
theorem blk5_of (t : Fin cfg0.N) (X : Vec Ideal S1x1x1x4096 .f32) (G : Vec Ideal S4x64x1x4096 .f32)
    (hX : ∀ s, X (ix4 (0 : Fin 1) (0 : Fin 1) (0 : Fin 1) s) = G (ix4 (pb t) (ph t) (0 : Fin 1) s)) :
    (cfg0.win 5).cut (grid0.coords t) X = ((cfg0.win 5).blk t).view.read (Elt Ideal) G := by
  funext (j : S1x1x1x4096.Idx)
  have ej : j = ix4 (0 : Fin 1) (0 : Fin 1) (0 : Fin 1) (j 3) := eta4' j
  rw [ej]
  exact (hX (j 3)).trans (congrArg G (emb5 t (j 3))).symm

theorem cov5 (b : Fin 4) (h : Fin 64) (s : Fin 4096) : ∃ t : Fin cfg0.N, (cfg0.win 5).flush t = true ∧ (ix4 b h (0 : Fin 1) s : S4x64x1x4096.Idx) ∈ ((cfg0.win 5).blk t).view.set :=
  ⟨pt b h, flush0_5 _, mem_of _ _ _ ((emb5 _ s).trans (by rw [pb_pt, ph_pt]))⟩
theorem covered5 (i : S4x64x1x4096.Idx) : ∃ t : Fin cfg0.N, (cfg0.win 5).flush t = true ∧ i ∈ ((cfg0.win 5).blk t).view.set :=
  all4 (p := fun i => ∃ t : Fin cfg0.N, (cfg0.win 5).flush t = true ∧ i ∈ ((cfg0.win 5).blk t).view.set) cov5 i

/-- Window 6's block of an array, from its entries. -/
theorem blk6_of (t : Fin cfg0.N) (X : Vec Ideal S1x4096x128 .fp8e4m3) (G : Vec Ideal S4x4096x8192 .fp8e4m3)
    (hX : ∀ s d, X (ix3 (0 : Fin 1) s d) = G (ix3 (pb t) s (col (ph t) d))) :
    (cfg0.win 6).cut (grid0.coords t) X = ((cfg0.win 6).blk t).view.read (Elt Ideal) G := by
  funext (j : S1x4096x128.Idx)
  have ej : j = ix3 (0 : Fin 1) (j 1) (j 2) := eta3' j
  rw [ej]
  exact (hX (j 1) (j 2)).trans (congrArg G (emb6 t (j 1) (j 2))).symm

theorem cov6 (b : Fin 4) (s : Fin 4096) (x : Fin 8192) : ∃ t : Fin cfg0.N, (cfg0.win 6).flush t = true ∧ (ix3 b s x : S4x4096x8192.Idx) ∈ ((cfg0.win 6).blk t).view.set :=
  ⟨pt b (ch x), flush0_6 _, mem_of _ _ _ ((emb6 _ s (cd x)).trans (by rw [pb_pt, ph_pt, col_ch]))⟩
theorem covered6 (i : S4x4096x8192.Idx) : ∃ t : Fin cfg0.N, (cfg0.win 6).flush t = true ∧ i ∈ ((cfg0.win 6).blk t).view.set :=
  all3 (p := fun i => ∃ t : Fin cfg0.N, (cfg0.win 6).flush t = true ∧ i ∈ ((cfg0.win 6).blk t).view.set) cov6 i

/-- Window 7's block of an array, from its entries. -/
theorem blk7_of (t : Fin cfg0.N) (X : Vec Ideal S1x1x1x4096 .f32) (G : Vec Ideal S4x64x1x4096 .f32)
    (hX : ∀ s, X (ix4 (0 : Fin 1) (0 : Fin 1) (0 : Fin 1) s) = G (ix4 (pb t) (ph t) (0 : Fin 1) s)) :
    (cfg0.win 7).cut (grid0.coords t) X = ((cfg0.win 7).blk t).view.read (Elt Ideal) G := by
  funext (j : S1x1x1x4096.Idx)
  have ej : j = ix4 (0 : Fin 1) (0 : Fin 1) (0 : Fin 1) (j 3) := eta4' j
  rw [ej]
  exact (hX (j 3)).trans (congrArg G (emb7 t (j 3))).symm

theorem cov7 (b : Fin 4) (h : Fin 64) (s : Fin 4096) : ∃ t : Fin cfg0.N, (cfg0.win 7).flush t = true ∧ (ix4 b h (0 : Fin 1) s : S4x64x1x4096.Idx) ∈ ((cfg0.win 7).blk t).view.set :=
  ⟨pt b h, flush0_7 _, mem_of _ _ _ ((emb7 _ s).trans (by rw [pb_pt, ph_pt]))⟩
theorem covered7 (i : S4x64x1x4096.Idx) : ∃ t : Fin cfg0.N, (cfg0.win 7).flush t = true ∧ i ∈ ((cfg0.win 7).blk t).view.set :=
  all4 (p := fun i => ∃ t : Fin cfg0.N, (cfg0.win 7).flush t = true ∧ i ∈ ((cfg0.win 7).blk t).view.set) cov7 i

/-- Window 8's block of an array, from its entries. -/
theorem blk8_of (t : Fin cfg0.N) (X : Vec Ideal S1x4096x128 .fp8e4m3) (G : Vec Ideal S4x4096x8192 .fp8e4m3)
    (hX : ∀ s d, X (ix3 (0 : Fin 1) s d) = G (ix3 (pb t) s (col (ph t) d))) :
    (cfg0.win 8).cut (grid0.coords t) X = ((cfg0.win 8).blk t).view.read (Elt Ideal) G := by
  funext (j : S1x4096x128.Idx)
  have ej : j = ix3 (0 : Fin 1) (j 1) (j 2) := eta3' j
  rw [ej]
  exact (hX (j 1) (j 2)).trans (congrArg G (emb8 t (j 1) (j 2))).symm

theorem cov8 (b : Fin 4) (s : Fin 4096) (x : Fin 8192) : ∃ t : Fin cfg0.N, (cfg0.win 8).flush t = true ∧ (ix3 b s x : S4x4096x8192.Idx) ∈ ((cfg0.win 8).blk t).view.set :=
  ⟨pt b (ch x), flush0_8 _, mem_of _ _ _ ((emb8 _ s (cd x)).trans (by rw [pb_pt, ph_pt, col_ch]))⟩
theorem covered8 (i : S4x4096x8192.Idx) : ∃ t : Fin cfg0.N, (cfg0.win 8).flush t = true ∧ i ∈ ((cfg0.win 8).blk t).view.set :=
  all3 (p := fun i => ∃ t : Fin cfg0.N, (cfg0.win 8).flush t = true ∧ i ∈ ((cfg0.win 8).blk t).view.set) cov8 i

/-- Window 9's block of an array, from its entries. -/
theorem blk9_of (t : Fin cfg0.N) (X : Vec Ideal S1x1x1x128 .f32) (G : Vec Ideal S4x64x1x128 .f32)
    (hX : ∀ s, X (ix4 (0 : Fin 1) (0 : Fin 1) (0 : Fin 1) s) = G (ix4 (pb t) (ph t) (0 : Fin 1) s)) :
    (cfg0.win 9).cut (grid0.coords t) X = ((cfg0.win 9).blk t).view.read (Elt Ideal) G := by
  funext (j : S1x1x1x128.Idx)
  have ej : j = ix4 (0 : Fin 1) (0 : Fin 1) (0 : Fin 1) (j 3) := eta4' j
  rw [ej]
  exact (hX (j 3)).trans (congrArg G (emb9 t (j 3))).symm

theorem cov9 (b : Fin 4) (h : Fin 64) (s : Fin 128) : ∃ t : Fin cfg0.N, (cfg0.win 9).flush t = true ∧ (ix4 b h (0 : Fin 1) s : S4x64x1x128.Idx) ∈ ((cfg0.win 9).blk t).view.set :=
  ⟨pt b h, flush0_9 _, mem_of _ _ _ ((emb9 _ s).trans (by rw [pb_pt, ph_pt]))⟩
theorem covered9 (i : S4x64x1x128.Idx) : ∃ t : Fin cfg0.N, (cfg0.win 9).flush t = true ∧ i ∈ ((cfg0.win 9).blk t).view.set :=
  all4 (p := fun i => ∃ t : Fin cfg0.N, (cfg0.win 9).flush t = true ∧ i ∈ ((cfg0.win 9).blk t).view.set) cov9 i

end Cert.Final
-- ==== Proof.Final.lean ====
module

public import proofs.«01_k».proof.Proof.Blk

@[expose] public section

set_option maxRecDepth 16384

/-! The kernel's result arrays after the run are the reference's functions of the argument arrays. -/

noncomputable section

namespace Cert.Final

open Cert.KernelIdeal Cert.KernelIdeal.Gen Cert.KernelIdeal.Value Idealize.ShloMosaic Idealize.ShloMosaic.TcCoe Idealize.SL.Sem
open Cert.KernelIdeal.Blk Cert.Scale Cert.Same
open Cert.ReferenceIdeal.Row (col)
open Cert.ReferenceIdeal.Run (G3 G4 G5 G6 G7 G8 G9)

variable (m : (ℓ : Loc nD τ sig) → Buf (Elt Ideal) ℓ) (ρ : Dev nD → PrngReg)

section
variable (c : Dev nD)
  (h0 : ∀ i, Fin' ((V m c main_arg0 : Vec Ideal S4x4096x8192 .bf16) i)) (h1 : ∀ i, Fin' ((V m c main_arg1 : Vec Ideal S4x4096x8192 .bf16) i))
  (h2 : ∀ i, Fin' ((V m c main_arg2 : Vec Ideal S4x4096x8192 .bf16) i))
include h0 h1 h2

theorem flushed3_eq (t : Fin cfg0.N) :
    (dats m 0 c).flushed 3 t = ((cfg0.win 3).blk t).view.read (Elt Ideal) (G3 (V m c main_arg0) (V m c main_arg1) (V m c main_arg2)) := by
  rw [flushed3_A, out3, iblk0_eq, iblk1_eq, iblk2_eq]
  exact blk3_of t _ _ (oW_eq (V m c main_arg0) (V m c main_arg1) (V m c main_arg2) (pb t) (ph t) h0 h1 h2)

theorem final3 : (dats m 0 c).arrAt 3 cfg0.N
    = G3 (m ((c : Thread nD τ).loc main_arg0)) (m ((c : Thread nD τ).loc main_arg1)) (m ((c : Thread nD τ).loc main_arg2)) :=
  (dats m 0 c).arrAt_eq_of_cover 3 (G3 (V m c main_arg0) (V m c main_arg1) (V m c main_arg2)) (fun t _ => flushed3_eq m c h0 h1 h2 t) covered3

theorem flushed4_eq (t : Fin cfg0.N) :
    (dats m 0 c).flushed 4 t = ((cfg0.win 4).blk t).view.read (Elt Ideal) (G4 (V m c main_arg0) (V m c main_arg1) (V m c main_arg2)) := by
  rw [flushed4_A, out4, iblk0_eq]
  exact blk4_of t _ _ (cq_G (V m c main_arg0) (V m c main_arg1) (V m c main_arg2) (pb t) (ph t) h0)

theorem final4 : (dats m 0 c).arrAt 4 cfg0.N
    = G4 (m ((c : Thread nD τ).loc main_arg0)) (m ((c : Thread nD τ).loc main_arg1)) (m ((c : Thread nD τ).loc main_arg2)) :=
  (dats m 0 c).arrAt_eq_of_cover 4 (G4 (V m c main_arg0) (V m c main_arg1) (V m c main_arg2)) (fun t _ => flushed4_eq m c h0 h1 h2 t) covered4

theorem flushed5_eq (t : Fin cfg0.N) :
    (dats m 0 c).flushed 5 t = ((cfg0.win 5).blk t).view.read (Elt Ideal) (G5 (V m c main_arg0) (V m c main_arg1) (V m c main_arg2)) := by
  rw [flushed5_A, out5, iblk0_eq]
  exact blk5_of t _ _ (sq_G (V m c main_arg0) (V m c main_arg1) (V m c main_arg2) (pb t) (ph t) h0)

theorem final5 : (dats m 0 c).arrAt 5 cfg0.N
    = G5 (m ((c : Thread nD τ).loc main_arg0)) (m ((c : Thread nD τ).loc main_arg1)) (m ((c : Thread nD τ).loc main_arg2)) :=
  (dats m 0 c).arrAt_eq_of_cover 5 (G5 (V m c main_arg0) (V m c main_arg1) (V m c main_arg2)) (fun t _ => flushed5_eq m c h0 h1 h2 t) covered5

theorem flushed6_eq (t : Fin cfg0.N) :
    (dats m 0 c).flushed 6 t = ((cfg0.win 6).blk t).view.read (Elt Ideal) (G6 (V m c main_arg0) (V m c main_arg1) (V m c main_arg2)) := by
  rw [flushed6_A, out6, iblk1_eq]
  exact blk6_of t _ _ (ck_G (V m c main_arg0) (V m c main_arg1) (V m c main_arg2) (pb t) (ph t) h1)

theorem final6 : (dats m 0 c).arrAt 6 cfg0.N
    = G6 (m ((c : Thread nD τ).loc main_arg0)) (m ((c : Thread nD τ).loc main_arg1)) (m ((c : Thread nD τ).loc main_arg2)) :=
  (dats m 0 c).arrAt_eq_of_cover 6 (G6 (V m c main_arg0) (V m c main_arg1) (V m c main_arg2)) (fun t _ => flushed6_eq m c h0 h1 h2 t) covered6

theorem flushed7_eq (t : Fin cfg0.N) :
    (dats m 0 c).flushed 7 t = ((cfg0.win 7).blk t).view.read (Elt Ideal) (G7 (V m c main_arg0) (V m c main_arg1) (V m c main_arg2)) := by
  rw [flushed7_A, out7, iblk1_eq]
  exact blk7_of t _ _ (sk_G (V m c main_arg0) (V m c main_arg1) (V m c main_arg2) (pb t) (ph t) h1)

theorem final7 : (dats m 0 c).arrAt 7 cfg0.N
    = G7 (m ((c : Thread nD τ).loc main_arg0)) (m ((c : Thread nD τ).loc main_arg1)) (m ((c : Thread nD τ).loc main_arg2)) :=
  (dats m 0 c).arrAt_eq_of_cover 7 (G7 (V m c main_arg0) (V m c main_arg1) (V m c main_arg2)) (fun t _ => flushed7_eq m c h0 h1 h2 t) covered7

theorem flushed8_eq (t : Fin cfg0.N) :
    (dats m 0 c).flushed 8 t = ((cfg0.win 8).blk t).view.read (Elt Ideal) (G8 (V m c main_arg0) (V m c main_arg1) (V m c main_arg2)) := by
  rw [flushed8_A, out8, iblk2_eq]
  exact blk8_of t _ _ (cv_G (V m c main_arg0) (V m c main_arg1) (V m c main_arg2) (pb t) (ph t) h2)

theorem final8 : (dats m 0 c).arrAt 8 cfg0.N
    = G8 (m ((c : Thread nD τ).loc main_arg0)) (m ((c : Thread nD τ).loc main_arg1)) (m ((c : Thread nD τ).loc main_arg2)) :=
  (dats m 0 c).arrAt_eq_of_cover 8 (G8 (V m c main_arg0) (V m c main_arg1) (V m c main_arg2)) (fun t _ => flushed8_eq m c h0 h1 h2 t) covered8

theorem flushed9_eq (t : Fin cfg0.N) :
    (dats m 0 c).flushed 9 t = ((cfg0.win 9).blk t).view.read (Elt Ideal) (G9 (V m c main_arg0) (V m c main_arg1) (V m c main_arg2)) := by
  rw [flushed9_A, out9, iblk2_eq]
  exact blk9_of t _ _ (sv_G (V m c main_arg0) (V m c main_arg1) (V m c main_arg2) (pb t) (ph t) h2)

theorem final9 : (dats m 0 c).arrAt 9 cfg0.N
    = G9 (m ((c : Thread nD τ).loc main_arg0)) (m ((c : Thread nD τ).loc main_arg1)) (m ((c : Thread nD τ).loc main_arg2)) :=
  (dats m 0 c).arrAt_eq_of_cover 9 (G9 (V m c main_arg0) (V m c main_arg1) (V m c main_arg2)) (fun t _ => flushed9_eq m c h0 h1 h2 t) covered9

end

/-- The kernel's run, its results as the reference's functions of the arguments. -/
theorem run (hf : ∀ (c : Dev nD) i, Fin' ((m ((c : Thread nD τ).loc main_arg0) : Vec Ideal S4x4096x8192 .bf16) i)
      ∧ Fin' ((m ((c : Thread nD τ).loc main_arg1) : Vec Ideal S4x4096x8192 .bf16) i) ∧ Fin' ((m ((c : Thread nD τ).loc main_arg2) : Vec Ideal S4x4096x8192 .bf16) i)) :
    θ_run defs (onTc (τ := τ) (main (F := Ideal))) ⟨m, fun _ => 0, ρ⟩ fun r => ∀ c : Dev nD,
      r.2.mem ((c : Thread nD τ).loc main_v0_0) = G3 (m ((c : Thread nD τ).loc main_arg0)) (m ((c : Thread nD τ).loc main_arg1)) (m ((c : Thread nD τ).loc main_arg2))
      ∧ r.2.mem ((c : Thread nD τ).loc main_v0_1) = G4 (m ((c : Thread nD τ).loc main_arg0)) (m ((c : Thread nD τ).loc main_arg1)) (m ((c : Thread nD τ).loc main_arg2))
      ∧ r.2.mem ((c : Thread nD τ).loc main_v0_2) = G5 (m ((c : Thread nD τ).loc main_arg0)) (m ((c : Thread nD τ).loc main_arg1)) (m ((c : Thread nD τ).loc main_arg2))
      ∧ r.2.mem ((c : Thread nD τ).loc main_v0_3) = G6 (m ((c : Thread nD τ).loc main_arg0)) (m ((c : Thread nD τ).loc main_arg1)) (m ((c : Thread nD τ).loc main_arg2))
      ∧ r.2.mem ((c : Thread nD τ).loc main_v0_4) = G7 (m ((c : Thread nD τ).loc main_arg0)) (m ((c : Thread nD τ).loc main_arg1)) (m ((c : Thread nD τ).loc main_arg2))
      ∧ r.2.mem ((c : Thread nD τ).loc main_v0_5) = G8 (m ((c : Thread nD τ).loc main_arg0)) (m ((c : Thread nD τ).loc main_arg1)) (m ((c : Thread nD τ).loc main_arg2))
      ∧ r.2.mem ((c : Thread nD τ).loc main_v0_6) = G9 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => by
    have a0 := fun i => (hf c i).1
    have a1 := fun i => (hf c i).2.1
    have a2 := fun i => (hf c i).2.2
    obtain ⟨e3, e4, e5, e6, e7, e8, e9, k⟩ := h c
    exact ⟨e3.trans (final3 m c a0 a1 a2), e4.trans (final4 m c a0 a1 a2), e5.trans (final5 m c a0 a1 a2), e6.trans (final6 m c a0 a1 a2), e7.trans (final7 m c a0 a1 a2), e8.trans (final8 m c a0 a1 a2), e9.trans (final9 m c a0 a1 a2), k⟩)
    (run_blocks m ρ)

end Cert.Final
-- ==== Proof.lean ====
module

public import proofs.«01_k».proof.Defs
public import proofs.«01_k».proof.Proof.Gen.KernelIdeal.Value
public import proofs.«01_k».proof.Proof.Final
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "sm_log2e" .f32 0x3E0293EE#32 (((Real.sqrt 128)⁻¹ * (Real.log 2)⁻¹ : ℝ) : EReal) rfl

/-- From finite arguments the kernel and the reference end with the same results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hp hagree
  refine ⟨_, _, _, _, _, _, _, Cert.Final.run m ρ (fun c i => Cert.Scale.pre_fin _ _ _ (hp c) i), ?_⟩
  refine (θ_run Cert.ReferenceIdeal.defs _ _).mono (fun r h c => ?_) (Cert.ReferenceIdeal.Run.run (F := Ideal) m' ρ')
  obtain ⟨a0, a1, a2⟩ := hagree c
  rw [← a0, ← a1, ← a2]
  exact h c

theorem claim : Cert.Claim := ⟨Cert.Kernel.Gen.facts, Cert.KernelIdeal.Gen.facts, Cert.ReferenceIdeal.Gen.facts, Cert.Pre_finite.Gen.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, preserves, algebraic⟩

end Cert.Proof

end
